-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_QuantKernel (m : (ℓ : Loc Cert.QuantKernel.nD Cert.QuantKernel.τ Cert.QuantKernel.sig) → Buf (Elt Bits) ℓ) : Prop :=
  True

def Pre_QuantKernelIdeal (m : (ℓ : Loc Cert.QuantKernelIdeal.nD Cert.QuantKernelIdeal.τ Cert.QuantKernelIdeal.sig) → Buf (Elt Ideal) ℓ) : Prop :=
  True

def Pre_QuantKernelIdeal_range_and_signs [hPre_range_and_signs : Cert.Pre_range_and_signs.Facts] (m : (ℓ : Loc Cert.QuantKernelIdeal.nD Cert.QuantKernelIdeal.τ Cert.QuantKernelIdeal.sig) → Buf (Elt Ideal) ℓ) : Prop :=
  ∀ c : Dev Cert.QuantKernelIdeal.nD,
    (Cert.Pre_range_and_signs.fn (F := Ideal) (m ((c.tc : Thread Cert.QuantKernelIdeal.nD Cert.QuantKernelIdeal.τ).loc Cert.QuantKernelIdeal.main_arg0)) (m ((c.tc : Thread Cert.QuantKernelIdeal.nD Cert.QuantKernelIdeal.τ).loc Cert.QuantKernelIdeal.main_arg1))).1 = (fun _ => 1#1)
    ∧ (Cert.Pre_range_and_signs.fn (F := Ideal) (m ((c.tc : Thread Cert.QuantKernelIdeal.nD Cert.QuantKernelIdeal.τ).loc Cert.QuantKernelIdeal.main_arg0)) (m ((c.tc : Thread Cert.QuantKernelIdeal.nD Cert.QuantKernelIdeal.τ).loc Cert.QuantKernelIdeal.main_arg1))).2.1 = (fun _ => 1#1)
    ∧ (Cert.Pre_range_and_signs.fn (F := Ideal) (m ((c.tc : Thread Cert.QuantKernelIdeal.nD Cert.QuantKernelIdeal.τ).loc Cert.QuantKernelIdeal.main_arg0)) (m ((c.tc : Thread Cert.QuantKernelIdeal.nD Cert.QuantKernelIdeal.τ).loc Cert.QuantKernelIdeal.main_arg1))).2.2 = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_range_and_signs [hPre_range_and_signs : Cert.Pre_range_and_signs.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_range_and_signs.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))).1 = (fun _ => 1#1)
    ∧ (Cert.Pre_range_and_signs.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))).2.1 = (fun _ => 1#1)
    ∧ (Cert.Pre_range_and_signs.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_QuantKernel [hQuantKernel : Cert.QuantKernel.Facts] : Prop :=
  ∀ (m : (ℓ : Loc Cert.QuantKernel.nD Cert.QuantKernel.τ Cert.QuantKernel.sig) → Buf (Elt Bits) ℓ) (g : Dev Cert.QuantKernel.nD → PrngReg), Pre_QuantKernel m →
    θ_run (Cert.QuantKernel.defs (F := Bits)) (onTc (τ := Cert.QuantKernel.τ) (Cert.QuantKernel.main (F := Bits))) ⟨m, fun _ => 0, g⟩ (fun r => (∀ c : Dev Cert.QuantKernel.nD,
      r.2.mem ((c.tc : Thread Cert.QuantKernel.nD Cert.QuantKernel.τ).loc Cert.QuantKernel.main_arg0) = m ((c.tc : Thread Cert.QuantKernel.nD Cert.QuantKernel.τ).loc Cert.QuantKernel.main_arg0)
      ∧ r.2.mem ((c.tc : Thread Cert.QuantKernel.nD Cert.QuantKernel.τ).loc Cert.QuantKernel.main_arg1) = m ((c.tc : Thread Cert.QuantKernel.nD Cert.QuantKernel.τ).loc Cert.QuantKernel.main_arg1))
      ∧ r.2.sem = fun _ => 0)

def quiescent_QuantKernelIdeal [hQuantKernelIdeal : Cert.QuantKernelIdeal.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg), Pre_QuantKernelIdeal m →
    θ_run (Cert.QuantKernelIdeal.defs (F := Ideal)) (onTc (τ := Cert.QuantKernelIdeal.τ) (Cert.QuantKernelIdeal.main (F := Ideal))) ⟨m, fun _ => 0, g⟩ (fun r => (∀ c : Dev Cert.QuantKernelIdeal.nD,
      r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
      ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1))
      ∧ r.2.sem = fun _ => 0)

def quiescent_QuantKernelIdeal_pre_range_and_signs [hQuantKernelIdeal : Cert.QuantKernelIdeal.Facts] [hPre_range_and_signs : Cert.Pre_range_and_signs.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg), Pre_QuantKernelIdeal_range_and_signs m →
    θ_run (Cert.QuantKernelIdeal.defs (F := Ideal)) (onTc (τ := Cert.QuantKernelIdeal.τ) (Cert.QuantKernelIdeal.main (F := Ideal))) ⟨m, fun _ => 0, g⟩ (fun r => (∀ c : Dev Cert.QuantKernelIdeal.nD,
      r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
      ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def quiescent_QuantReferenceIdeal_pre_range_and_signs [hQuantReferenceIdeal : Cert.QuantReferenceIdeal.Facts] [hPre_range_and_signs : Cert.Pre_range_and_signs.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_range_and_signs m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_QuantKernel_QuantKernelIdeal : Prop :=
  True

def algebraic_QuantKernelIdeal_QuantReferenceIdeal_pre_range_and_signs [hQuantKernelIdeal : Cert.QuantKernelIdeal.Facts] [hQuantReferenceIdeal : Cert.QuantReferenceIdeal.Facts] [hPre_range_and_signs : Cert.Pre_range_and_signs.Facts] : Prop :=
  ∀ (m : (ℓ : Loc Cert.QuantKernelIdeal.nD Cert.QuantKernelIdeal.τ Cert.QuantKernelIdeal.sig) → Buf (Elt Ideal) ℓ) (g : Dev Cert.QuantKernelIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantKernelIdeal_range_and_signs m →
    (∀ c : Dev Cert.QuantKernelIdeal.nD,
      m' ((c.tc : Thread Cert.QuantReferenceIdeal.nD Cert.QuantReferenceIdeal.τ).loc Cert.QuantReferenceIdeal.main_arg0) = m ((c.tc : Thread Cert.QuantKernelIdeal.nD Cert.QuantKernelIdeal.τ).loc Cert.QuantKernelIdeal.main_arg0)
      ∧ m' ((c.tc : Thread Cert.QuantReferenceIdeal.nD Cert.QuantReferenceIdeal.τ).loc Cert.QuantReferenceIdeal.main_arg1) = m ((c.tc : Thread Cert.QuantKernelIdeal.nD Cert.QuantKernelIdeal.τ).loc Cert.QuantKernelIdeal.main_arg1)) →
    ∃ (v0 : (c : Dev Cert.QuantKernelIdeal.nD) → Buf (Elt Ideal) ((c.tc : Thread Cert.QuantKernelIdeal.nD Cert.QuantKernelIdeal.τ).loc Cert.QuantKernelIdeal.main_v1_0)) (v1 : (c : Dev Cert.QuantKernelIdeal.nD) → Buf (Elt Ideal) ((c.tc : Thread Cert.QuantKernelIdeal.nD Cert.QuantKernelIdeal.τ).loc Cert.QuantKernelIdeal.main_v1_1)) (v2 : (c : Dev Cert.QuantKernelIdeal.nD) → Buf (Elt Ideal) ((c.tc : Thread Cert.QuantKernelIdeal.nD Cert.QuantKernelIdeal.τ).loc Cert.QuantKernelIdeal.main_v1_2)),
      θ_run (Cert.QuantKernelIdeal.defs (F := Ideal)) (onTc (τ := Cert.QuantKernelIdeal.τ) (Cert.QuantKernelIdeal.main (F := Ideal))) ⟨m, fun _ => 0, g⟩ (fun r => ∀ c : Dev Cert.QuantKernelIdeal.nD,
          r.2.mem ((c.tc : Thread Cert.QuantKernelIdeal.nD Cert.QuantKernelIdeal.τ).loc Cert.QuantKernelIdeal.main_v1_0) = v0 c
          ∧ r.2.mem ((c.tc : Thread Cert.QuantKernelIdeal.nD Cert.QuantKernelIdeal.τ).loc Cert.QuantKernelIdeal.main_v1_1) = v1 c
          ∧ r.2.mem ((c.tc : Thread Cert.QuantKernelIdeal.nD Cert.QuantKernelIdeal.τ).loc Cert.QuantKernelIdeal.main_v1_2) = v2 c
          ∧ r.2.mem ((c.tc : Thread Cert.QuantKernelIdeal.nD Cert.QuantKernelIdeal.τ).loc Cert.QuantKernelIdeal.main_arg0) = m ((c.tc : Thread Cert.QuantKernelIdeal.nD Cert.QuantKernelIdeal.τ).loc Cert.QuantKernelIdeal.main_arg0)
          ∧ r.2.mem ((c.tc : Thread Cert.QuantKernelIdeal.nD Cert.QuantKernelIdeal.τ).loc Cert.QuantKernelIdeal.main_arg1) = m ((c.tc : Thread Cert.QuantKernelIdeal.nD Cert.QuantKernelIdeal.τ).loc Cert.QuantKernelIdeal.main_arg1))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1))

def Claim : Prop :=
  ∃ (hKernel : Cert.Kernel.Facts) (hKernelIdeal : Cert.KernelIdeal.Facts) (hReferenceIdeal : Cert.ReferenceIdeal.Facts) (hQuantKernel : Cert.QuantKernel.Facts) (hQuantKernelIdeal : Cert.QuantKernelIdeal.Facts) (hQuantReferenceIdeal : Cert.QuantReferenceIdeal.Facts) (hPre_range_and_signs : Cert.Pre_range_and_signs.Facts),
    quiescent_Kernel (hKernel := hKernel)
    ∧ quiescent_KernelIdeal (hKernelIdeal := hKernelIdeal)
    ∧ quiescent_ReferenceIdeal (hReferenceIdeal := hReferenceIdeal)
    ∧ quiescent_QuantKernel (hQuantKernel := hQuantKernel)
    ∧ quiescent_QuantKernelIdeal (hQuantKernelIdeal := hQuantKernelIdeal)
    ∧ quiescent_QuantKernelIdeal_pre_range_and_signs (hQuantKernelIdeal := hQuantKernelIdeal) (hPre_range_and_signs := hPre_range_and_signs)
    ∧ quiescent_QuantReferenceIdeal (hQuantReferenceIdeal := hQuantReferenceIdeal)
    ∧ quiescent_QuantReferenceIdeal_pre_range_and_signs (hQuantReferenceIdeal := hQuantReferenceIdeal) (hPre_range_and_signs := hPre_range_and_signs)
    ∧ preserves_Kernel_KernelIdeal
    ∧ algebraic_KernelIdeal_ReferenceIdeal (hKernelIdeal := hKernelIdeal) (hReferenceIdeal := hReferenceIdeal)
    ∧ preserves_QuantKernel_QuantKernelIdeal
    ∧ algebraic_QuantKernelIdeal_QuantReferenceIdeal_pre_range_and_signs (hQuantKernelIdeal := hQuantKernelIdeal) (hQuantReferenceIdeal := hQuantReferenceIdeal) (hPre_range_and_signs := hPre_range_and_signs)
-- ==== Pre_range_and_signs.lean ====
abbrev S3456x6144 : Shape := ⟨2, ![3456, 6144]⟩
abbrev S6144 : Shape := ⟨1, ![6144]⟩
abbrev S_ : Shape := ⟨0, ![]⟩

class Facts : Prop where
  bcast_S_S3456x6144 : S_.BroadcastsInDim S3456x6144 (![] : Fin 0 → Fin S3456x6144.rank)
  bcast_S_S6144 : S_.BroadcastsInDim S6144 (![] : Fin 0 → Fin S6144.rank)

variable [Facts]

def fn {F : FTy → Type} [FloatOps F] (main_arg0 : FVec F S3456x6144 .bf16) (main_arg1 : IVec S6144 8) : IVec S3456x6144 1 × IVec S3456x6144 1 × IVec S6144 1 :=
  let main_v0 : FVec F S3456x6144 .bf16 := Host.absf main_arg0
  let main_cst : FVec F S_ .bf16 := constant S_ .bf16 0x7F7F#16
  let main_v1 : FVec F S3456x6144 .bf16 := broadcastInDim S3456x6144 ![] bcast_S_S3456x6144 main_cst
  let main_v2 : IVec S3456x6144 1 := cmpf .ole main_v0 main_v1
  let main_cst_0 : FVec F S_ .bf16 := constant S_ .bf16 0x0000#16
  let main_v3 : FVec F S3456x6144 .bf16 := broadcastInDim S3456x6144 ![] bcast_S_S3456x6144 main_cst_0
  let main_v4 : IVec S3456x6144 1 := cmpf .oeq main_arg0 main_v3
  let main_v5 : FVec F S3456x6144 .bf16 := Host.absf main_arg0
  let main_cst_1 : FVec F S_ .bf16 := constant S_ .bf16 0x0780#16
  let main_v6 : FVec F S3456x6144 .bf16 := broadcastInDim S3456x6144 ![] bcast_S_S3456x6144 main_cst_1
  let main_v7 : IVec S3456x6144 1 := cmpf .oge main_v5 main_v6
  let main_v8 : IVec S3456x6144 1 := ori main_v4 main_v7
  let main_c : IVec S_ 8 := constantI S_ 8 255#8
  let main_v9 : IVec S6144 8 := broadcastInDim S6144 ![] bcast_S_S6144 main_c
  let main_v10 : IVec S6144 1 := cmpi .sge main_arg1 main_v9
  let main_c_2 : IVec S_ 8 := constantI S_ 8 1#8
  let main_v11 : IVec S6144 8 := broadcastInDim S6144 ![] bcast_S_S6144 main_c_2
  let main_v12 : IVec S6144 1 := cmpi .sle main_arg1 main_v11
  let main_v13 : IVec S6144 1 := andi main_v10 main_v12
  (main_v2, main_v8, main_v13)
-- ==== Kernel.lean ====
abbrev S3456x6144 : Shape := ⟨2, ![3456, 6144]⟩
abbrev S16384x3072 : Shape := ⟨2, ![16384, 3072]⟩
abbrev S2x128 : Shape := ⟨2, ![2, 128]⟩
abbrev S16384x6 : Shape := ⟨2, ![16384, 6]⟩
abbrev S6x16384 : Shape := ⟨2, ![6, 16384]⟩
abbrev S6x1x16384 : Shape := ⟨3, ![6, 1, 16384]⟩
abbrev S3456x16384 : Shape := ⟨2, ![3456, 16384]⟩
abbrev S576x6144 : Shape := ⟨2, ![576, 6144]⟩
abbrev S512x3072 : Shape := ⟨2, ![512, 3072]⟩
abbrev S6x1x512 : Shape := ⟨3, ![6, 1, 512]⟩
abbrev S576x512 : Shape := ⟨2, ![576, 512]⟩
abbrev S6144x512 : Shape := ⟨2, ![6144, 512]⟩
abbrev S1x128 : Shape := ⟨2, ![1, 128]⟩
abbrev S8x128 : Shape := ⟨2, ![8, 128]⟩
abbrev S128x128 : Shape := ⟨2, ![128, 128]⟩
abbrev S1x1x128 : Shape := ⟨3, ![1, 1, 128]⟩
abbrev S8x128x1 : Shape := ⟨3, ![8, 128, 1]⟩
abbrev S16x128 : Shape := ⟨2, ![16, 128]⟩

abbrev nBuf : Space → Nat
  | .hbm => 7
  | .vmem => 10
  | .smem => 0
  | _ => 0

abbrev bufTy : (tb : Table) → Fin (tcTables nBuf tb) → BufTy
  | .hbm, ⟨0, _⟩ => ⟨S3456x6144, .bf16⟩
  | .hbm, ⟨1, _⟩ => ⟨S16384x3072, .i8⟩
  | .hbm, ⟨2, _⟩ => ⟨S2x128, .i32⟩
  | .hbm, ⟨3, _⟩ => ⟨S16384x6, .f32⟩
  | .hbm, ⟨4, _⟩ => ⟨S6x16384, .f32⟩
  | .hbm, ⟨5, _⟩ => ⟨S6x1x16384, .f32⟩
  | .hbm, ⟨6, _⟩ => ⟨S3456x16384, .bf16⟩
  | .local _ .vmem, ⟨0, _⟩ => ⟨S576x6144, .bf16⟩
  | .local _ .vmem, ⟨1, _⟩ => ⟨S576x6144, .bf16⟩
  | .local _ .vmem, ⟨2, _⟩ => ⟨S512x3072, .i8⟩
  | .local _ .vmem, ⟨3, _⟩ => ⟨S512x3072, .i8⟩
  | .local _ .vmem, ⟨4, _⟩ => ⟨S2x128, .i32⟩
  | .local _ .vmem, ⟨5, _⟩ => ⟨S6x1x512, .f32⟩
  | .local _ .vmem, ⟨6, _⟩ => ⟨S6x1x512, .f32⟩
  | .local _ .vmem, ⟨7, _⟩ => ⟨S576x512, .bf16⟩
  | .local _ .vmem, ⟨8, _⟩ => ⟨S576x512, .bf16⟩
  | .local _ .vmem, ⟨9, _⟩ => ⟨S6144x512, .bf16⟩
  | _, _ => ⟨S3456x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c24_i32 : BitVec 32 := 24#32
  let v14 : BitVec 32 := Scalar.addi c0_i32_9 c24_i32
  let c1_i32 : BitVec 32 := 1#32
  ⟨c0_i32_9, v14, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  v15
def k0_off1 (k0_t1 : Fin k0_t1_loop.trips) : Fin 2 → Nat :=
  let c0_17 : Index := 0#32
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let v34 : Index := Scalar.indexCast v16
  ![0, v34.toNat]
def k0_off2 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let c0_i32_11 : BitVec 32 := 0#32
  let v18 : BitVec 1 := Scalar.cmpi .sgt arg8 c0_i32_11
  let v19 : BitVec 32 := Scalar.extui v18
  let c0_i32_12 : BitVec 32 := 0#32
  let v20 : BitVec 1 := Scalar.cmpi .slt arg8 c0_i32_12
  let v21 : BitVec 32 := Scalar.extui v20
  let v22 : BitVec 32 := Scalar.subi v19 v21
  let c4_i32 : BitVec 32 := 4#32
  let c0_i32_13 : BitVec 32 := 0#32
  let v23 : BitVec 1 := Scalar.cmpi .sgt c4_i32 c0_i32_13
  let v24 : BitVec 32 := Scalar.extui v23
  let c0_i32_14 : BitVec 32 := 0#32
  let v25 : BitVec 1 := Scalar.cmpi .slt c4_i32 c0_i32_14
  let v26 : BitVec 32 := Scalar.extui v25
  let v27 : BitVec 32 := Scalar.subi v24 v26
  let v28 : BitVec 1 := Scalar.cmpi .ne v22 v27
  let v29 : BitVec 32 := Scalar.remsi arg8 c4_i32
  let c0_i32_15 : BitVec 32 := 0#32
  let v30 : BitVec 1 := Scalar.cmpi .ne v29 c0_i32_15
  let v31 : BitVec 1 := Scalar.andi v28 v30
  let v17 : BitVec 32 := Scalar.divsi arg8 c4_i32
  let c1_i32_16 : BitVec 32 := 1#32
  let v32 : BitVec 32 := Scalar.subi v17 c1_i32_16
  let v33 : BitVec 32 := Scalar.select v31 v32 v17
  let v38 : Index := Scalar.indexCast v33
  let c0_18 : Index := 0#32
  let c0_19 : Index := 0#32
  ![v38.toNat, 0, 0]
def k0_mult2 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32 : BitVec 32 := 2#32
  let v67 : BitVec 32 := Scalar.muli v16 c2_i32
  let c0_i32_25 : BitVec 32 := 0#32
  let v68 : BitVec 32 := Scalar.addi v67 c0_i32_25
  v68
def k0_off3 (k0_t1 : Fin k0_t1_loop.trips) (c0_i32_25 : BitVec 32) : Fin 2 → Nat :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32 : BitVec 32 := 2#32
  let v67 : BitVec 32 := Scalar.muli v16 c2_i32
  let v68 : BitVec 32 := Scalar.addi v67 c0_i32_25
  let v69 : BitVec 32 := v68
  let v70 : Index := Scalar.indexCast v69
  let c0_26 : Index := 0#32
  ![v70.toNat, 0]
def k0_mult3 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_33 : BitVec 32 := 2#32
  let v99 : BitVec 32 := Scalar.muli v16 c2_i32_33
  let c16_i32 : BitVec 32 := 16#32
  let v100 : BitVec 32 := Scalar.addi v99 c16_i32
  v100
def k0_mult4 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_41 : BitVec 32 := 2#32
  let v131 : BitVec 32 := Scalar.muli v16 c2_i32_41
  let c32_i32 : BitVec 32 := 32#32
  let v132 : BitVec 32 := Scalar.addi v131 c32_i32
  v132
def k0_mult5 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_49 : BitVec 32 := 2#32
  let v163 : BitVec 32 := Scalar.muli v16 c2_i32_49
  let c48_i32 : BitVec 32 := 48#32
  let v164 : BitVec 32 := Scalar.addi v163 c48_i32
  v164
def k0_mult6 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_57 : BitVec 32 := 2#32
  let v195 : BitVec 32 := Scalar.muli v16 c2_i32_57
  let c64_i32 : BitVec 32 := 64#32
  let v196 : BitVec 32 := Scalar.addi v195 c64_i32
  v196
def k0_mult7 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_65 : BitVec 32 := 2#32
  let v227 : BitVec 32 := Scalar.muli v16 c2_i32_65
  let c80_i32 : BitVec 32 := 80#32
  let v228 : BitVec 32 := Scalar.addi v227 c80_i32
  v228
def k0_mult8 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_73 : BitVec 32 := 2#32
  let v259 : BitVec 32 := Scalar.muli v16 c2_i32_73
  let c96_i32 : BitVec 32 := 96#32
  let v260 : BitVec 32 := Scalar.addi v259 c96_i32
  v260
def k0_mult9 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_81 : BitVec 32 := 2#32
  let v291 : BitVec 32 := Scalar.muli v16 c2_i32_81
  let c112_i32 : BitVec 32 := 112#32
  let v292 : BitVec 32 := Scalar.addi v291 c112_i32
  v292
def k0_mult10 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_89 : BitVec 32 := 2#32
  let v323 : BitVec 32 := Scalar.muli v16 c2_i32_89
  let c128_i32_90 : BitVec 32 := 128#32
  let v324 : BitVec 32 := Scalar.addi v323 c128_i32_90
  v324
def k0_mult11 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_98 : BitVec 32 := 2#32
  let v355 : BitVec 32 := Scalar.muli v16 c2_i32_98
  let c144_i32 : BitVec 32 := 144#32
  let v356 : BitVec 32 := Scalar.addi v355 c144_i32
  v356
def k0_mult12 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_106 : BitVec 32 := 2#32
  let v387 : BitVec 32 := Scalar.muli v16 c2_i32_106
  let c160_i32 : BitVec 32 := 160#32
  let v388 : BitVec 32 := Scalar.addi v387 c160_i32
  v388
def k0_mult13 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_114 : BitVec 32 := 2#32
  let v419 : BitVec 32 := Scalar.muli v16 c2_i32_114
  let c176_i32 : BitVec 32 := 176#32
  let v420 : BitVec 32 := Scalar.addi v419 c176_i32
  v420
def k0_mult14 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_122 : BitVec 32 := 2#32
  let v451 : BitVec 32 := Scalar.muli v16 c2_i32_122
  let c192_i32 : BitVec 32 := 192#32
  let v452 : BitVec 32 := Scalar.addi v451 c192_i32
  v452
def k0_mult15 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_130 : BitVec 32 := 2#32
  let v483 : BitVec 32 := Scalar.muli v16 c2_i32_130
  let c208_i32 : BitVec 32 := 208#32
  let v484 : BitVec 32 := Scalar.addi v483 c208_i32
  v484
def k0_mult16 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_138 : BitVec 32 := 2#32
  let v515 : BitVec 32 := Scalar.muli v16 c2_i32_138
  let c224_i32 : BitVec 32 := 224#32
  let v516 : BitVec 32 := Scalar.addi v515 c224_i32
  v516
def k0_mult17 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_146 : BitVec 32 := 2#32
  let v547 : BitVec 32 := Scalar.muli v16 c2_i32_146
  let c240_i32 : BitVec 32 := 240#32
  let v548 : BitVec 32 := Scalar.addi v547 c240_i32
  v548
def k0_off4 (k0_t1 : Fin k0_t1_loop.trips) : Fin 2 → Nat :=
  let c128 : Index := 128#32
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let v554 : Index := Scalar.indexCast v16
  ![128, v554.toNat]
def k0_off5 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let c0_i32_11 : BitVec 32 := 0#32
  let v18 : BitVec 1 := Scalar.cmpi .sgt arg8 c0_i32_11
  let v19 : BitVec 32 := Scalar.extui v18
  let c0_i32_12 : BitVec 32 := 0#32
  let v20 : BitVec 1 := Scalar.cmpi .slt arg8 c0_i32_12
  let v21 : BitVec 32 := Scalar.extui v20
  let v22 : BitVec 32 := Scalar.subi v19 v21
  let c4_i32 : BitVec 32 := 4#32
  let c0_i32_13 : BitVec 32 := 0#32
  let v23 : BitVec 1 := Scalar.cmpi .sgt c4_i32 c0_i32_13
  let v24 : BitVec 32 := Scalar.extui v23
  let c0_i32_14 : BitVec 32 := 0#32
  let v25 : BitVec 1 := Scalar.cmpi .slt c4_i32 c0_i32_14
  let v26 : BitVec 32 := Scalar.extui v25
  let v27 : BitVec 32 := Scalar.subi v24 v26
  let v28 : BitVec 1 := Scalar.cmpi .ne v22 v27
  let v29 : BitVec 32 := Scalar.remsi arg8 c4_i32
  let c0_i32_15 : BitVec 32 := 0#32
  let v30 : BitVec 1 := Scalar.cmpi .ne v29 c0_i32_15
  let v31 : BitVec 1 := Scalar.andi v28 v30
  let v17 : BitVec 32 := Scalar.divsi arg8 c4_i32
  let c1_i32_16 : BitVec 32 := 1#32
  let v32 : BitVec 32 := Scalar.subi v17 c1_i32_16
  let v33 : BitVec 32 := Scalar.select v31 v32 v17
  let v558 : Index := Scalar.indexCast v33
  let c0_148 : Index := 0#32
  let c128_149 : Index := 128#32
  ![v558.toNat, 0, 128]
def k0_mult18 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_156 : BitVec 32 := 2#32
  let v587 : BitVec 32 := Scalar.muli v16 c2_i32_156
  let c0_i32_157 : BitVec 32 := 0#32
  let v588 : BitVec 32 := Scalar.addi v587 c0_i32_157
  v588
def k0_off6 (k0_t1 : Fin k0_t1_loop.trips) (c0_i32_157 : BitVec 32) : Fin 2 → Nat :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_156 : BitVec 32 := 2#32
  let v587 : BitVec 32 := Scalar.muli v16 c2_i32_156
  let v588 : BitVec 32 := Scalar.addi v587 c0_i32_157
  let v589 : BitVec 32 := v588
  let v590 : Index := Scalar.indexCast v589
  let c128_158 : Index := 128#32
  ![v590.toNat, 128]
def k0_mult19 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_165 : BitVec 32 := 2#32
  let v619 : BitVec 32 := Scalar.muli v16 c2_i32_165
  let c16_i32_166 : BitVec 32 := 16#32
  let v620 : BitVec 32 := Scalar.addi v619 c16_i32_166
  v620
def k0_mult20 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_174 : BitVec 32 := 2#32
  let v651 : BitVec 32 := Scalar.muli v16 c2_i32_174
  let c32_i32_175 : BitVec 32 := 32#32
  let v652 : BitVec 32 := Scalar.addi v651 c32_i32_175
  v652
def k0_mult21 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_183 : BitVec 32 := 2#32
  let v683 : BitVec 32 := Scalar.muli v16 c2_i32_183
  let c48_i32_184 : BitVec 32 := 48#32
  let v684 : BitVec 32 := Scalar.addi v683 c48_i32_184
  v684
def k0_mult22 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_192 : BitVec 32 := 2#32
  let v715 : BitVec 32 := Scalar.muli v16 c2_i32_192
  let c64_i32_193 : BitVec 32 := 64#32
  let v716 : BitVec 32 := Scalar.addi v715 c64_i32_193
  v716
def k0_mult23 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_201 : BitVec 32 := 2#32
  let v747 : BitVec 32 := Scalar.muli v16 c2_i32_201
  let c80_i32_202 : BitVec 32 := 80#32
  let v748 : BitVec 32 := Scalar.addi v747 c80_i32_202
  v748
def k0_mult24 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_210 : BitVec 32 := 2#32
  let v779 : BitVec 32 := Scalar.muli v16 c2_i32_210
  let c96_i32_211 : BitVec 32 := 96#32
  let v780 : BitVec 32 := Scalar.addi v779 c96_i32_211
  v780
def k0_mult25 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_219 : BitVec 32 := 2#32
  let v811 : BitVec 32 := Scalar.muli v16 c2_i32_219
  let c112_i32_220 : BitVec 32 := 112#32
  let v812 : BitVec 32 := Scalar.addi v811 c112_i32_220
  v812
def k0_mult26 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_228 : BitVec 32 := 2#32
  let v843 : BitVec 32 := Scalar.muli v16 c2_i32_228
  let c128_i32_229 : BitVec 32 := 128#32
  let v844 : BitVec 32 := Scalar.addi v843 c128_i32_229
  v844
def k0_mult27 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_237 : BitVec 32 := 2#32
  let v875 : BitVec 32 := Scalar.muli v16 c2_i32_237
  let c144_i32_238 : BitVec 32 := 144#32
  let v876 : BitVec 32 := Scalar.addi v875 c144_i32_238
  v876
def k0_mult28 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_246 : BitVec 32 := 2#32
  let v907 : BitVec 32 := Scalar.muli v16 c2_i32_246
  let c160_i32_247 : BitVec 32 := 160#32
  let v908 : BitVec 32 := Scalar.addi v907 c160_i32_247
  v908
def k0_mult29 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_255 : BitVec 32 := 2#32
  let v939 : BitVec 32 := Scalar.muli v16 c2_i32_255
  let c176_i32_256 : BitVec 32 := 176#32
  let v940 : BitVec 32 := Scalar.addi v939 c176_i32_256
  v940
def k0_mult30 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_264 : BitVec 32 := 2#32
  let v971 : BitVec 32 := Scalar.muli v16 c2_i32_264
  let c192_i32_265 : BitVec 32 := 192#32
  let v972 : BitVec 32 := Scalar.addi v971 c192_i32_265
  v972
def k0_mult31 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_273 : BitVec 32 := 2#32
  let v1003 : BitVec 32 := Scalar.muli v16 c2_i32_273
  let c208_i32_274 : BitVec 32 := 208#32
  let v1004 : BitVec 32 := Scalar.addi v1003 c208_i32_274
  v1004
def k0_mult32 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_282 : BitVec 32 := 2#32
  let v1035 : BitVec 32 := Scalar.muli v16 c2_i32_282
  let c224_i32_283 : BitVec 32 := 224#32
  let v1036 : BitVec 32 := Scalar.addi v1035 c224_i32_283
  v1036
def k0_mult33 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_291 : BitVec 32 := 2#32
  let v1067 : BitVec 32 := Scalar.muli v16 c2_i32_291
  let c240_i32_292 : BitVec 32 := 240#32
  let v1068 : BitVec 32 := Scalar.addi v1067 c240_i32_292
  v1068
def k0_off7 (k0_t1 : Fin k0_t1_loop.trips) : Fin 2 → Nat :=
  let c256 : Index := 256#32
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let v1074 : Index := Scalar.indexCast v16
  ![256, v1074.toNat]
def k0_off8 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let c0_i32_11 : BitVec 32 := 0#32
  let v18 : BitVec 1 := Scalar.cmpi .sgt arg8 c0_i32_11
  let v19 : BitVec 32 := Scalar.extui v18
  let c0_i32_12 : BitVec 32 := 0#32
  let v20 : BitVec 1 := Scalar.cmpi .slt arg8 c0_i32_12
  let v21 : BitVec 32 := Scalar.extui v20
  let v22 : BitVec 32 := Scalar.subi v19 v21
  let c4_i32 : BitVec 32 := 4#32
  let c0_i32_13 : BitVec 32 := 0#32
  let v23 : BitVec 1 := Scalar.cmpi .sgt c4_i32 c0_i32_13
  let v24 : BitVec 32 := Scalar.extui v23
  let c0_i32_14 : BitVec 32 := 0#32
  let v25 : BitVec 1 := Scalar.cmpi .slt c4_i32 c0_i32_14
  let v26 : BitVec 32 := Scalar.extui v25
  let v27 : BitVec 32 := Scalar.subi v24 v26
  let v28 : BitVec 1 := Scalar.cmpi .ne v22 v27
  let v29 : BitVec 32 := Scalar.remsi arg8 c4_i32
  let c0_i32_15 : BitVec 32 := 0#32
  let v30 : BitVec 1 := Scalar.cmpi .ne v29 c0_i32_15
  let v31 : BitVec 1 := Scalar.andi v28 v30
  let v17 : BitVec 32 := Scalar.divsi arg8 c4_i32
  let c1_i32_16 : BitVec 32 := 1#32
  let v32 : BitVec 32 := Scalar.subi v17 c1_i32_16
  let v33 : BitVec 32 := Scalar.select v31 v32 v17
  let v1078 : Index := Scalar.indexCast v33
  let c0_294 : Index := 0#32
  let c256_295 : Index := 256#32
  ![v1078.toNat, 0, 256]
def k0_mult34 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_302 : BitVec 32 := 2#32
  let v1107 : BitVec 32 := Scalar.muli v16 c2_i32_302
  let c0_i32_303 : BitVec 32 := 0#32
  let v1108 : BitVec 32 := Scalar.addi v1107 c0_i32_303
  v1108
def k0_off9 (k0_t1 : Fin k0_t1_loop.trips) (c0_i32_303 : BitVec 32) : Fin 2 → Nat :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_302 : BitVec 32 := 2#32
  let v1107 : BitVec 32 := Scalar.muli v16 c2_i32_302
  let v1108 : BitVec 32 := Scalar.addi v1107 c0_i32_303
  let v1109 : BitVec 32 := v1108
  let v1110 : Index := Scalar.indexCast v1109
  let c256_304 : Index := 256#32
  ![v1110.toNat, 256]
def k0_mult35 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_311 : BitVec 32 := 2#32
  let v1139 : BitVec 32 := Scalar.muli v16 c2_i32_311
  let c16_i32_312 : BitVec 32 := 16#32
  let v1140 : BitVec 32 := Scalar.addi v1139 c16_i32_312
  v1140
def k0_mult36 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_320 : BitVec 32 := 2#32
  let v1171 : BitVec 32 := Scalar.muli v16 c2_i32_320
  let c32_i32_321 : BitVec 32 := 32#32
  let v1172 : BitVec 32 := Scalar.addi v1171 c32_i32_321
  v1172
def k0_mult37 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_329 : BitVec 32 := 2#32
  let v1203 : BitVec 32 := Scalar.muli v16 c2_i32_329
  let c48_i32_330 : BitVec 32 := 48#32
  let v1204 : BitVec 32 := Scalar.addi v1203 c48_i32_330
  v1204
def k0_mult38 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_338 : BitVec 32 := 2#32
  let v1235 : BitVec 32 := Scalar.muli v16 c2_i32_338
  let c64_i32_339 : BitVec 32 := 64#32
  let v1236 : BitVec 32 := Scalar.addi v1235 c64_i32_339
  v1236
def k0_mult39 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_347 : BitVec 32 := 2#32
  let v1267 : BitVec 32 := Scalar.muli v16 c2_i32_347
  let c80_i32_348 : BitVec 32 := 80#32
  let v1268 : BitVec 32 := Scalar.addi v1267 c80_i32_348
  v1268
def k0_mult40 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_356 : BitVec 32 := 2#32
  let v1299 : BitVec 32 := Scalar.muli v16 c2_i32_356
  let c96_i32_357 : BitVec 32 := 96#32
  let v1300 : BitVec 32 := Scalar.addi v1299 c96_i32_357
  v1300
def k0_mult41 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_365 : BitVec 32 := 2#32
  let v1331 : BitVec 32 := Scalar.muli v16 c2_i32_365
  let c112_i32_366 : BitVec 32 := 112#32
  let v1332 : BitVec 32 := Scalar.addi v1331 c112_i32_366
  v1332
def k0_mult42 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_374 : BitVec 32 := 2#32
  let v1363 : BitVec 32 := Scalar.muli v16 c2_i32_374
  let c128_i32_375 : BitVec 32 := 128#32
  let v1364 : BitVec 32 := Scalar.addi v1363 c128_i32_375
  v1364
def k0_mult43 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_383 : BitVec 32 := 2#32
  let v1395 : BitVec 32 := Scalar.muli v16 c2_i32_383
  let c144_i32_384 : BitVec 32 := 144#32
  let v1396 : BitVec 32 := Scalar.addi v1395 c144_i32_384
  v1396
def k0_mult44 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_392 : BitVec 32 := 2#32
  let v1427 : BitVec 32 := Scalar.muli v16 c2_i32_392
  let c160_i32_393 : BitVec 32 := 160#32
  let v1428 : BitVec 32 := Scalar.addi v1427 c160_i32_393
  v1428
def k0_mult45 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_401 : BitVec 32 := 2#32
  let v1459 : BitVec 32 := Scalar.muli v16 c2_i32_401
  let c176_i32_402 : BitVec 32 := 176#32
  let v1460 : BitVec 32 := Scalar.addi v1459 c176_i32_402
  v1460
def k0_mult46 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_410 : BitVec 32 := 2#32
  let v1491 : BitVec 32 := Scalar.muli v16 c2_i32_410
  let c192_i32_411 : BitVec 32 := 192#32
  let v1492 : BitVec 32 := Scalar.addi v1491 c192_i32_411
  v1492
def k0_mult47 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_419 : BitVec 32 := 2#32
  let v1523 : BitVec 32 := Scalar.muli v16 c2_i32_419
  let c208_i32_420 : BitVec 32 := 208#32
  let v1524 : BitVec 32 := Scalar.addi v1523 c208_i32_420
  v1524
def k0_mult48 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_428 : BitVec 32 := 2#32
  let v1555 : BitVec 32 := Scalar.muli v16 c2_i32_428
  let c224_i32_429 : BitVec 32 := 224#32
  let v1556 : BitVec 32 := Scalar.addi v1555 c224_i32_429
  v1556
def k0_mult49 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_437 : BitVec 32 := 2#32
  let v1587 : BitVec 32 := Scalar.muli v16 c2_i32_437
  let c240_i32_438 : BitVec 32 := 240#32
  let v1588 : BitVec 32 := Scalar.addi v1587 c240_i32_438
  v1588
def k0_off10 (k0_t1 : Fin k0_t1_loop.trips) : Fin 2 → Nat :=
  let c384 : Index := 384#32
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let v1594 : Index := Scalar.indexCast v16
  ![384, v1594.toNat]
def k0_off11 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let c0_i32_11 : BitVec 32 := 0#32
  let v18 : BitVec 1 := Scalar.cmpi .sgt arg8 c0_i32_11
  let v19 : BitVec 32 := Scalar.extui v18
  let c0_i32_12 : BitVec 32 := 0#32
  let v20 : BitVec 1 := Scalar.cmpi .slt arg8 c0_i32_12
  let v21 : BitVec 32 := Scalar.extui v20
  let v22 : BitVec 32 := Scalar.subi v19 v21
  let c4_i32 : BitVec 32 := 4#32
  let c0_i32_13 : BitVec 32 := 0#32
  let v23 : BitVec 1 := Scalar.cmpi .sgt c4_i32 c0_i32_13
  let v24 : BitVec 32 := Scalar.extui v23
  let c0_i32_14 : BitVec 32 := 0#32
  let v25 : BitVec 1 := Scalar.cmpi .slt c4_i32 c0_i32_14
  let v26 : BitVec 32 := Scalar.extui v25
  let v27 : BitVec 32 := Scalar.subi v24 v26
  let v28 : BitVec 1 := Scalar.cmpi .ne v22 v27
  let v29 : BitVec 32 := Scalar.remsi arg8 c4_i32
  let c0_i32_15 : BitVec 32 := 0#32
  let v30 : BitVec 1 := Scalar.cmpi .ne v29 c0_i32_15
  let v31 : BitVec 1 := Scalar.andi v28 v30
  let v17 : BitVec 32 := Scalar.divsi arg8 c4_i32
  let c1_i32_16 : BitVec 32 := 1#32
  let v32 : BitVec 32 := Scalar.subi v17 c1_i32_16
  let v33 : BitVec 32 := Scalar.select v31 v32 v17
  let v1598 : Index := Scalar.indexCast v33
  let c0_440 : Index := 0#32
  let c384_441 : Index := 384#32
  ![v1598.toNat, 0, 384]
def k0_mult50 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_448 : BitVec 32 := 2#32
  let v1627 : BitVec 32 := Scalar.muli v16 c2_i32_448
  let c0_i32_449 : BitVec 32 := 0#32
  let v1628 : BitVec 32 := Scalar.addi v1627 c0_i32_449
  v1628
def k0_off12 (k0_t1 : Fin k0_t1_loop.trips) (c0_i32_449 : BitVec 32) : Fin 2 → Nat :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_448 : BitVec 32 := 2#32
  let v1627 : BitVec 32 := Scalar.muli v16 c2_i32_448
  let v1628 : BitVec 32 := Scalar.addi v1627 c0_i32_449
  let v1629 : BitVec 32 := v1628
  let v1630 : Index := Scalar.indexCast v1629
  let c384_450 : Index := 384#32
  ![v1630.toNat, 384]
def k0_mult51 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_457 : BitVec 32 := 2#32
  let v1659 : BitVec 32 := Scalar.muli v16 c2_i32_457
  let c16_i32_458 : BitVec 32 := 16#32
  let v1660 : BitVec 32 := Scalar.addi v1659 c16_i32_458
  v1660
def k0_mult52 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_466 : BitVec 32 := 2#32
  let v1691 : BitVec 32 := Scalar.muli v16 c2_i32_466
  let c32_i32_467 : BitVec 32 := 32#32
  let v1692 : BitVec 32 := Scalar.addi v1691 c32_i32_467
  v1692
def k0_mult53 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_475 : BitVec 32 := 2#32
  let v1723 : BitVec 32 := Scalar.muli v16 c2_i32_475
  let c48_i32_476 : BitVec 32 := 48#32
  let v1724 : BitVec 32 := Scalar.addi v1723 c48_i32_476
  v1724
def k0_mult54 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_484 : BitVec 32 := 2#32
  let v1755 : BitVec 32 := Scalar.muli v16 c2_i32_484
  let c64_i32_485 : BitVec 32 := 64#32
  let v1756 : BitVec 32 := Scalar.addi v1755 c64_i32_485
  v1756
def k0_mult55 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_493 : BitVec 32 := 2#32
  let v1787 : BitVec 32 := Scalar.muli v16 c2_i32_493
  let c80_i32_494 : BitVec 32 := 80#32
  let v1788 : BitVec 32 := Scalar.addi v1787 c80_i32_494
  v1788
def k0_mult56 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_502 : BitVec 32 := 2#32
  let v1819 : BitVec 32 := Scalar.muli v16 c2_i32_502
  let c96_i32_503 : BitVec 32 := 96#32
  let v1820 : BitVec 32 := Scalar.addi v1819 c96_i32_503
  v1820
def k0_mult57 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_511 : BitVec 32 := 2#32
  let v1851 : BitVec 32 := Scalar.muli v16 c2_i32_511
  let c112_i32_512 : BitVec 32 := 112#32
  let v1852 : BitVec 32 := Scalar.addi v1851 c112_i32_512
  v1852
def k0_mult58 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_520 : BitVec 32 := 2#32
  let v1883 : BitVec 32 := Scalar.muli v16 c2_i32_520
  let c128_i32_521 : BitVec 32 := 128#32
  let v1884 : BitVec 32 := Scalar.addi v1883 c128_i32_521
  v1884
def k0_mult59 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_529 : BitVec 32 := 2#32
  let v1915 : BitVec 32 := Scalar.muli v16 c2_i32_529
  let c144_i32_530 : BitVec 32 := 144#32
  let v1916 : BitVec 32 := Scalar.addi v1915 c144_i32_530
  v1916
def k0_mult60 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_538 : BitVec 32 := 2#32
  let v1947 : BitVec 32 := Scalar.muli v16 c2_i32_538
  let c160_i32_539 : BitVec 32 := 160#32
  let v1948 : BitVec 32 := Scalar.addi v1947 c160_i32_539
  v1948
def k0_mult61 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_547 : BitVec 32 := 2#32
  let v1979 : BitVec 32 := Scalar.muli v16 c2_i32_547
  let c176_i32_548 : BitVec 32 := 176#32
  let v1980 : BitVec 32 := Scalar.addi v1979 c176_i32_548
  v1980
def k0_mult62 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_556 : BitVec 32 := 2#32
  let v2011 : BitVec 32 := Scalar.muli v16 c2_i32_556
  let c192_i32_557 : BitVec 32 := 192#32
  let v2012 : BitVec 32 := Scalar.addi v2011 c192_i32_557
  v2012
def k0_mult63 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_565 : BitVec 32 := 2#32
  let v2043 : BitVec 32 := Scalar.muli v16 c2_i32_565
  let c208_i32_566 : BitVec 32 := 208#32
  let v2044 : BitVec 32 := Scalar.addi v2043 c208_i32_566
  v2044
def k0_mult64 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_574 : BitVec 32 := 2#32
  let v2075 : BitVec 32 := Scalar.muli v16 c2_i32_574
  let c224_i32_575 : BitVec 32 := 224#32
  let v2076 : BitVec 32 := Scalar.addi v2075 c224_i32_575
  v2076
def k0_mult65 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c128_i32 : BitVec 32 := 128#32
  let v15 : BitVec 32 := Scalar.muli arg8 c128_i32
  let v16 : BitVec 32 := v15
  let c2_i32_583 : BitVec 32 := 2#32
  let v2107 : BitVec 32 := Scalar.muli v16 c2_i32_583
  let c240_i32_584 : BitVec 32 := 240#32
  let v2108 : BitVec 32 := Scalar.addi v2107 c240_i32_584
  v2108
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S576x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S6x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S576x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S3456x6144 : Shape := ⟨2, ![3456, 6144]⟩
abbrev S16384x3072 : Shape := ⟨2, ![16384, 3072]⟩
abbrev S2x128 : Shape := ⟨2, ![2, 128]⟩
abbrev S16384x6 : Shape := ⟨2, ![16384, 6]⟩
abbrev S256 : Shape := ⟨1, ![256]⟩
abbrev S256x2 : Shape := ⟨2, ![256, 2]⟩
abbrev S_ : Shape := ⟨0, ![]⟩
abbrev S16384x3072x1 : Shape := ⟨3, ![16384, 3072, 1]⟩
abbrev S16384x3072x2 : Shape := ⟨3, ![16384, 3072, 2]⟩
abbrev S16384x6x512x2 : Shape := ⟨4, ![16384, 6, 512, 2]⟩
abbrev S16384x6x1x1 : Shape := ⟨4, ![16384, 6, 1, 1]⟩
abbrev S3456x6x512x2 : Shape := ⟨4, ![3456, 6, 512, 2]⟩
abbrev S3456x16384 : Shape := ⟨2, ![3456, 16384]⟩

abbrev nBuf : Space → Nat
  | .hbm => 24
  | .vmem => 0
  | .smem => 0
  | _ => 0

abbrev bufTy : (tb : Table) → Fin (tcTables nBuf tb) → BufTy
  | .hbm, ⟨0, _⟩ => ⟨S3456x6144, .bf16⟩
  | .hbm, ⟨1, _⟩ => ⟨S16384x3072, .i8⟩
  | .hbm, ⟨2, _⟩ => ⟨S2x128, .i32⟩
  | .hbm, ⟨3, _⟩ => ⟨S16384x6, .f32⟩
  | .hbm, ⟨4, _⟩ => ⟨S256, .i32⟩
  | .hbm, ⟨5, _⟩ => ⟨S256x2, .bf16⟩
  | .hbm, ⟨6, _⟩ => ⟨S16384x3072, .i32⟩
  | .hbm, ⟨7, _⟩ => ⟨S_, .i32⟩
  | .hbm, ⟨8, _⟩ => ⟨S16384x3072, .i32⟩
  | .hbm, ⟨9, _⟩ => ⟨S16384x3072, .i1⟩
  | .hbm, ⟨10, _⟩ => ⟨S_, .i32⟩
  | .hbm, ⟨11, _⟩ => ⟨S16384x3072, .i32⟩
  | .hbm, ⟨12, _⟩ => ⟨S16384x3072, .i32⟩
  | .hbm, ⟨13, _⟩ => ⟨S16384x3072, .i32⟩
  | .hbm, ⟨14, _⟩ => ⟨S16384x3072x1, .i32⟩
  | .hbm, ⟨15, _⟩ => ⟨S16384x3072x2, .bf16⟩
  | .hbm, ⟨16, _⟩ => ⟨S16384x6x512x2, .bf16⟩
  | .hbm, ⟨17, _⟩ => ⟨S16384x6, .bf16⟩
  | .hbm, ⟨18, _⟩ => ⟨S16384x6x1x1, .bf16⟩
  | .hbm, ⟨19, _⟩ => ⟨S16384x6x512x2, .bf16⟩
  | .hbm, ⟨20, _⟩ => ⟨S16384x6x512x2, .bf16⟩
  | .hbm, ⟨21, _⟩ => ⟨S3456x6x512x2, .bf16⟩
  | .hbm, ⟨22, _⟩ => ⟨S3456x16384, .f32⟩
  | .hbm, ⟨23, _⟩ => ⟨S3456x16384, .bf16⟩
  | _, _ => ⟨S3456x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== QuantKernel.lean ====
abbrev S3456x6144 : Shape := ⟨2, ![3456, 6144]⟩
abbrev S6144 : Shape := ⟨1, ![6144]⟩
abbrev S1x6144 : Shape := ⟨2, ![1, 6144]⟩
abbrev S3456x6 : Shape := ⟨2, ![3456, 6]⟩
abbrev S128x6144 : Shape := ⟨2, ![128, 6144]⟩
abbrev S128x6 : Shape := ⟨2, ![128, 6]⟩
abbrev S256x256 : Shape := ⟨2, ![256, 256]⟩
abbrev S128x256 : Shape := ⟨2, ![128, 256]⟩
abbrev S1x256 : Shape := ⟨2, ![1, 256]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S3456x6144, .bf16⟩
  | .hbm, ⟨1, _⟩ => ⟨S6144, .i8⟩
  | .hbm, ⟨2, _⟩ => ⟨S1x6144, .i8⟩
  | .hbm, ⟨3, _⟩ => ⟨S3456x6144, .fp8e4m3⟩
  | .hbm, ⟨4, _⟩ => ⟨S3456x6, .f32⟩
  | .hbm, ⟨5, _⟩ => ⟨S3456x6144, .bf16⟩
  | .local _ .vmem, ⟨0, _⟩ => ⟨S128x6144, .bf16⟩
  | .local _ .vmem, ⟨1, _⟩ => ⟨S128x6144, .bf16⟩
  | .local _ .vmem, ⟨2, _⟩ => ⟨S1x6144, .i8⟩
  | .local _ .vmem, ⟨3, _⟩ => ⟨S128x6144, .fp8e4m3⟩
  | .local _ .vmem, ⟨4, _⟩ => ⟨S128x6144, .fp8e4m3⟩
  | .local _ .vmem, ⟨5, _⟩ => ⟨S128x6, .f32⟩
  | .local _ .vmem, ⟨6, _⟩ => ⟨S128x6, .f32⟩
  | .local _ .vmem, ⟨7, _⟩ => ⟨S128x6144, .bf16⟩
  | .local _ .vmem, ⟨8, _⟩ => ⟨S128x6144, .bf16⟩
  | .local _ .vmem, ⟨9, _⟩ => ⟨S256x256, .bf16⟩
  | _, _ => ⟨S3456x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantReferenceIdeal.lean ====
abbrev S3456x6144 : Shape := ⟨2, ![3456, 6144]⟩
abbrev S6144 : Shape := ⟨1, ![6144]⟩
abbrev S3456x6 : Shape := ⟨2, ![3456, 6]⟩
abbrev S1024x1024 : Shape := ⟨2, ![1024, 1024]⟩
abbrev S6x1024 : Shape := ⟨2, ![6, 1024]⟩
abbrev S3456x6x1024 : Shape := ⟨3, ![3456, 6, 1024]⟩
abbrev S1x6x1024 : Shape := ⟨3, ![1, 6, 1024]⟩
abbrev S3456x6x1 : Shape := ⟨3, ![3456, 6, 1]⟩

abbrev nBuf : Space → Nat
  | .hbm => 5
  | .vmem => 5
  | .smem => 0
  | _ => 0

abbrev bufTy : (tb : Table) → Fin (tcTables nBuf tb) → BufTy
  | .hbm, ⟨0, _⟩ => ⟨S3456x6144, .bf16⟩
  | .hbm, ⟨1, _⟩ => ⟨S6144, .i8⟩
  | .hbm, ⟨2, _⟩ => ⟨S3456x6144, .fp8e4m3⟩
  | .hbm, ⟨3, _⟩ => ⟨S3456x6, .f32⟩
  | .hbm, ⟨4, _⟩ => ⟨S3456x6144, .bf16⟩
  | .local _ .vmem, ⟨0, _⟩ => ⟨S3456x6144, .bf16⟩
  | .local _ .vmem, ⟨1, _⟩ => ⟨S6144, .i8⟩
  | .local _ .vmem, ⟨2, _⟩ => ⟨S3456x6144, .fp8e4m3⟩
  | .local _ .vmem, ⟨3, _⟩ => ⟨S3456x6, .f32⟩
  | .local _ .vmem, ⟨4, _⟩ => ⟨S3456x6144, .bf16⟩
  | _, _ => ⟨S3456x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3456x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3456x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3456x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
module

public import proofs.«01_k».proof.Proof.Gen.KernelIdeal.Skeleton
public import Idealize.ShloMosaic.Lib.Pointwise
public import Idealize.ShloMosaic.Lib.BitcastPair

/-! One unrolled step of the decoder.  A trip of the decoding loop loads a 128 by 128 block of codes and the 128 scales
of its columns, and stores the decoded weights sixteen rows at a time.  Every one of those stores writes the same
function of the block, at its own eight rows of transposed codes: `block`.  `block_apply` reads it at an index. -/

@[expose] public section

noncomputable section

namespace Cert.DecodeMatmul

open Cert.KernelIdeal Cert.KernelIdeal.Gen Idealize.ShloMosaic Idealize.ShloMosaic.TcCoe

/-- The codebook's word for the code `q`: entry `q % 128` of the table's row `q / 128`. -/
def word (tbl : S2x128.Idx → BitVec 32) (q : BitVec 8) : BitVec 32 :=
  tbl (ix2 ⟨q.toNat / 128, by have := q.isLt; omega⟩ ⟨q.toNat % 128, Nat.mod_lt _ (by decide)⟩)

/-- Component `p` of the pair the codebook holds for the code `q`: half `p` of the code's word, read as a number. -/
def component (tbl : S2x128.Idx → BitVec 32) (q : BitVec 8) (p : ℕ) : EReal :=
  (FloatOps.ofBits .bf16 ((word tbl q).extractLsb' (16 * p) 16) : Ideal .bf16)

section
variable {F : FTy → Type} [FloatOps F]

/-- The index the gather is given: a code's low seven bits, with the wrap of a negative index around them. -/
def lane (c : IVec S8x128 32) : IVec S8x128 32 :=
  let k := andi c (broadcast S8x128 127#32)
  shapeCast S8x128 (shapeCast S8x128x1 (select (cmpi .slt k (broadcast S8x128 0#32)) (addi k (broadcast S8x128 128#32)) k)
    shapeCasts_S8x128_S8x128x1) shapeCasts_S8x128x1_S8x128

/-- What one store writes: rows `o … o + 7` of the transposed codes looked up in the two table rows, the words' halves
    read as numbers and multiplied by the scales of their columns. -/
def block (v8 v11 : Vec F S1x128 .i32) (q : Vec F S128x128 .i8) (s : Vec F S1x1x128 .f32) (o : ℕ)
    (h : S128x128.Slices ![o, 0] S8x128) : FVec F S16x128 .bf16 :=
  let c : IVec S8x128 32 := extractStridedSlice S8x128 ![o, 0]
    (transpose S128x128 [1, 0] (extui 32 q natLt_8_32 : IVec S128x128 32) transposes_S128x128_p1_0_S128x128) h
  let w : IVec S8x128 32 := select (cmpi .slt c (broadcast S8x128 128#32))
    (dynamicGather 1 (broadcastTo S8x128 (shapeCast S1x128 v8 shapeCasts_S1x128_S1x128) broadcasts_S1x128_S8x128) (lane c))
    (dynamicGather 1 (broadcastTo S8x128 (shapeCast S1x128 v11 shapeCasts_S1x128_S1x128) broadcasts_S1x128_S8x128) (lane c))
  shapeCast S16x128 (mulf (bitcastToFloat .bf16 (bitcast S16x128 16 w bitcasts_S8x128_w32_S16x128_w16))
    (broadcastTo S16x128 (truncf .bf16 (shapeCast S1x128 s shapeCasts_S1x1x128_S1x128) bitsLt_bf16_f32) broadcasts_S1x128_S16x128))
    shapeCasts_S16x128_S16x128

end

/-- On a byte widened with zeros, the signed comparison with 128 is the comparison of the numbers. -/
theorem low_half (b : BitVec 8) :
    IntOp.cmpi .slt (b.setWidth 32) 128#32 = if b.toNat < 128 then 1#1 else 0#1 := by
  revert b; decide +kernel

/-- A byte's low seven bits are never negative: the index the gather is given is the code modulo 128. -/
theorem lane_word (b : BitVec 8) :
    (Scalar.select (IntOp.cmpi .slt (IntOp.andi (b.setWidth 32) 127#32) 0#32) (IntOp.addi (IntOp.andi (b.setWidth 32) 127#32) 128#32)
      (IntOp.andi (b.setWidth 32) 127#32)).toNat % 128 = b.toNat % 128 := by
  revert b; decide +kernel

/-- The table entry a code selects, the table given as its two rows. -/
def pick (v8 v11 : S1x128.Idx → BitVec 32) (b : BitVec 8) : BitVec 32 :=
  if b.toNat < 128 then v8 (ix2 0 ⟨b.toNat % 128, Nat.mod_lt _ (by decide)⟩) else v11 (ix2 0 ⟨b.toNat % 128, Nat.mod_lt _ (by decide)⟩)

/-- What a store writes at row `a` and column `l`: half `a % 2` of the word of code `(l, o + a / 2)`, times column `l`'s scale. -/
theorem block_apply (v8 v11 : Vec Ideal S1x128 .i32) (q : Vec Ideal S128x128 .i8) (s : Vec Ideal S1x1x128 .f32) (o : ℕ)
    (h : S128x128.Slices ![o, 0] S8x128) (a : Fin 16) (l : Fin 128) (ho : o + 8 ≤ 128) :
    block v8 v11 q s o h (ix2 a l)
      = Ideal.ofBits .bf16 ((pick v8 v11 (q (ix2 l ⟨o + a.val / 2, by have := a.isLt; omega⟩))).extractLsb' (16 * (a.val % 2)) 16)
        * s (ix3 0 0 l) := by
  unfold block lane
  pointwise [bitcast_32_16]
  have hw : ∀ b : BitVec 8, Scalar.select (IntOp.cmpi .slt (b.setWidth 32) 128#32)
      (v8 (ix2 0 ⟨(Scalar.select (IntOp.cmpi .slt (IntOp.andi (b.setWidth 32) 127#32) 0#32) (IntOp.addi (IntOp.andi (b.setWidth 32) 127#32) 128#32)
        (IntOp.andi (b.setWidth 32) 127#32)).toNat % 128, Nat.mod_lt _ (by decide)⟩))
      (v11 (ix2 0 ⟨(Scalar.select (IntOp.cmpi .slt (IntOp.andi (b.setWidth 32) 127#32) 0#32) (IntOp.addi (IntOp.andi (b.setWidth 32) 127#32) 128#32)
        (IntOp.andi (b.setWidth 32) 127#32)).toNat % 128, Nat.mod_lt _ (by decide)⟩)) = pick v8 v11 b := by
    intro b
    simp only [lane_word, low_half, pick]
    split <;> rfl
  refine congrArg (· * s (ix3 0 0 l)) (congrArg (Ideal.ofBits .bf16) (congrArg (BitVec.extractLsb' _ _) ((hw _).trans ?_)))
  exact congrArg (fun i => pick v8 v11 (q i)) (funext fun b => match b with
    | ⟨0, _⟩ => rfl
    | ⟨1, _⟩ => rfl)

end Cert.DecodeMatmul
-- ==== Proof.Trip.lean ====
module

public import proofs.«01_k».proof.Proof.Block
public import proofs.«01_k».proof.Proof.Gen.KernelIdeal.Loops
public import Idealize.ShloMosaic.Lib.WholeRead

/-! One trip of the decoding loop.  The trip stores sixty-four blocks of sixteen rows and 128 columns into the scratch;
each of them is, index by index, the decoded weight (`weights`).  The trip's offsets are word arithmetic on the loop
variable; their closed forms are checked over the 24 trips. -/

@[expose] public section

noncomputable section

namespace Cert.DecodeMatmul

open Cert.KernelIdeal Cert.KernelIdeal.Gen Idealize.ShloMosaic Idealize.ShloMosaic.TcCoe

/-- The decoded weights of one block of 512 output columns: row `k`, column `n` is component `k % 2` of the pair that the
    code `(n, k / 2)` selects, times the scale of column `n` in row `k`'s group of 1024. -/
def weights (codes : S512x3072.Idx → BitVec 8) (tbl : S2x128.Idx → BitVec 32) (ws : S6x1x512.Idx → EReal) : S6144x512.Idx → EReal :=
  fun j => component tbl (codes (ix2 (j 1) ⟨(j 0).val / 2, by have h : (j 0).val < 6144 := (j 0).isLt; omega⟩)) ((j 0).val % 2)
    * ws (ix3 ⟨(j 0).val / 1024, by have h : (j 0).val < 6144 := (j 0).isLt; omega⟩ 0 (j 1))

theorem weights_at (codes : S512x3072.Idx → BitVec 8) (tbl : S2x128.Idx → BitVec 32) (ws : S6x1x512.Idx → EReal) (j : S6144x512.Idx)
    (k n : ℕ) (hk : k < 6144) (hn : n < 512) (h0 : (j 0).val = k) (h1 : (j 1).val = n) :
    weights codes tbl ws j = component tbl (codes (ix2 ⟨n, hn⟩ ⟨k / 2, by omega⟩)) (k % 2) * ws (ix3 ⟨k / 1024, by omega⟩ 0 ⟨n, hn⟩) := by
  subst h0 h1
  rfl

theorem trips_eq : k0_t1_loop.trips = 24 := by decide +kernel

theorem rows_in : ∀ r : Fin 16, S128x128.Slices ![8 * r.val, 0] S8x128 := by decide +kernel

theorem off_codes_0 : ∀ k : Fin k0_t1_loop.trips, k0_off1 k = ![128 * 0, 128 * k.val] := by decide +kernel
theorem off_codes_1 : ∀ k : Fin k0_t1_loop.trips, k0_off4 k = ![128 * 1, 128 * k.val] := by decide +kernel
theorem off_codes_2 : ∀ k : Fin k0_t1_loop.trips, k0_off7 k = ![128 * 2, 128 * k.val] := by decide +kernel
theorem off_codes_3 : ∀ k : Fin k0_t1_loop.trips, k0_off10 k = ![128 * 3, 128 * k.val] := by decide +kernel
theorem off_scales_0 : ∀ k : Fin k0_t1_loop.trips, k0_off2 k = ![k.val / 4, 0, 128 * 0] := by decide +kernel
theorem off_scales_1 : ∀ k : Fin k0_t1_loop.trips, k0_off5 k = ![k.val / 4, 0, 128 * 1] := by decide +kernel
theorem off_scales_2 : ∀ k : Fin k0_t1_loop.trips, k0_off8 k = ![k.val / 4, 0, 128 * 2] := by decide +kernel
theorem off_scales_3 : ∀ k : Fin k0_t1_loop.trips, k0_off11 k = ![k.val / 4, 0, 128 * 3] := by decide +kernel
theorem off_rows_0 : ∀ (k : Fin k0_t1_loop.trips) (r : Fin 16), k0_off3 k (BitVec.ofNat 32 (16 * r.val)) = ![256 * k.val + 16 * r.val, 128 * 0] := by decide +kernel
theorem off_rows_1 : ∀ (k : Fin k0_t1_loop.trips) (r : Fin 16), k0_off6 k (BitVec.ofNat 32 (16 * r.val)) = ![256 * k.val + 16 * r.val, 128 * 1] := by decide +kernel
theorem off_rows_2 : ∀ (k : Fin k0_t1_loop.trips) (r : Fin 16), k0_off9 k (BitVec.ofNat 32 (16 * r.val)) = ![256 * k.val + 16 * r.val, 128 * 2] := by decide +kernel
theorem off_rows_3 : ∀ (k : Fin k0_t1_loop.trips) (r : Fin 16), k0_off12 k (BitVec.ofNat 32 (16 * r.val)) = ![256 * k.val + 16 * r.val, 128 * 3] := by decide +kernel

section
variable (arg3 : Memref sig .tc .vmem S512x3072 .i8) (harg3 : arg3.IsWhole)
  (arg5 : Memref sig .tc .vmem S6x1x512 .f32) (harg5 : arg5.IsWhole)
  (codes : Vec Ideal S512x3072 .i8) (tbl : Vec Ideal S2x128 .i32) (ws : Vec Ideal S6x1x512 .f32)
  (v8 v11 : Vec Ideal S1x128 .i32) (hv : ∀ b, pick v8 v11 b = word tbl b)

include hv in
/-- The block stored in trip `k` at row `16 r` of its 256 rows and column `128 n` is the decoded weights there. -/
theorem stored (k : ℕ) (hk : k < 24) (n : ℕ) (hn : n < 4) (r : Fin 16) (o : ℕ) (ho : o = 8 * r.val)
    (off1 : Fin 2 → ℕ) (off2 : Fin 3 → ℕ) (off3 : Fin 2 → ℕ)
    (e1 : off1 = ![128 * n, 128 * k]) (e2 : off2 = ![k / 4, 0, 128 * n]) (e3 : off3 = ![256 * k + 16 * r.val, 128 * n])
    (i1 : ∀ a, off1 a + S128x128.size a ≤ S512x3072.size a) (i2 : ∀ a, off2 a + S1x1x128.size a ≤ S6x1x512.size a)
    (i3 : ∀ a, off3 a + S16x128.size a ≤ S6144x512.size a) (h : S128x128.Slices ![o, 0] S8x128) (x : S16x128.Idx) :
    block v8 v11 (arg3.view.readAt (Elt Ideal) (Rect.unit (s := S512x3072) off1 S128x128.size i1).toLoadRect (harg3.unread codes))
        (arg5.view.readAt (Elt Ideal) (Rect.unit (s := S6x1x512) off2 S1x1x128.size i2).toLoadRect (harg5.unread ws)) o h x
      = weights codes tbl ws ((Rect.unit (s := S6144x512) off3 S16x128.size i3).emb x) := by
  subst e1 e2 e3 ho
  obtain ⟨a, l, rfl⟩ : ∃ (a : Fin 16) (l : Fin 128), x = ix2 a l := ⟨x 0, x 1, eq_ix2 x⟩
  have ha := a.isLt
  have hl := l.isLt
  have hr := r.isLt
  rw [block_apply _ _ _ _ _ _ _ _ (by omega), harg3.readAt_unread, harg5.readAt_unread, hv]
  have h0 : ((Rect.unit (s := S6144x512) ![256 * k + 16 * r.val, 128 * n] S16x128.size i3).emb (ix2 a l) 0).val = 256 * k + 16 * r.val + a.val := by
    rw [Rect.emb_apply]; show _ + 1 * a.val = _; rw [Nat.one_mul]; rfl
  have h1 : ((Rect.unit (s := S6144x512) ![256 * k + 16 * r.val, 128 * n] S16x128.size i3).emb (ix2 a l) 1).val = 128 * n + l.val := by
    rw [Rect.emb_apply]; show _ + 1 * l.val = _; rw [Nat.one_mul]; rfl
  rw [weights_at codes tbl ws _ _ _ (by omega) (by omega) h0 h1]
  unfold component
  have e2 : (256 * k + 16 * r.val + a.val) % 2 = a.val % 2 := by omega
  rw [e2]
  refine congrArg₂ (· * ·) (congrArg (fun i => Ideal.ofBits .bf16 ((word tbl (codes i)).extractLsb' (16 * (a.val % 2)) 16)) ?_) (congrArg ws ?_)
  · funext b
    match b with
    | ⟨0, _⟩ => exact Fin.ext (show 128 * n + 1 * l.val = 128 * n + l.val by omega)
    | ⟨1, _⟩ => exact Fin.ext (show 128 * k + 1 * (8 * r.val + a.val / 2) = (256 * k + 16 * r.val + a.val) / 2 by omega)
  · funext b
    match b with
    | ⟨0, _⟩ => exact Fin.ext (show k / 4 + 1 * 0 = (256 * k + 16 * r.val + a.val) / 1024 by omega)
    | ⟨1, _⟩ => rfl
    | ⟨2, _⟩ => exact Fin.ext (show 128 * n + 1 * l.val = 128 * n + l.val by omega)

end

section
variable (𝒱 : Variants) (c : Dev nD) (bd : Option 𝒱.V) (i : grid0.Coords)
  (arg2 : Memref sig .tc .vmem S576x6144 .bf16) (harg2 : arg2.IsWhole) (arg3 : Memref sig .tc .vmem S512x3072 .i8) (harg3 : arg3.IsWhole)
  (arg4 : Memref sig .tc .vmem S2x128 .i32) (harg4 : arg4.IsWhole) (arg5 : Memref sig .tc .vmem S6x1x512 .f32) (harg5 : arg5.IsWhole)
  (arg6 : Memref sig .tc .vmem S576x512 .bf16) (harg6 : arg6.IsWhole) (arg7 : Memref sig .tc .vmem S6144x512 .bf16) (harg7 : arg7.IsWhole)
  (h1 : k0_cond1 i = 1#1) (v8 v11 : Vec Ideal S1x128 .i32)
  (codes : Vec Ideal S512x3072 .i8) (tbl : Vec Ideal S2x128 .i32) (ws : Vec Ideal S6x1x512 .f32)

/-- Every block a trip stores is the decoded weights at its place in the scratch. -/
theorem trip_weights (hv : ∀ b, pick v8 v11 b = word tbl b) (k : Fin k0_t1_loop.trips) :
    ∀ p ∈ tripL_k0_t1 (F := Ideal) 𝒱 c bd i arg2 harg2 arg3 harg3 arg4 harg4 arg5 harg5 arg6 harg6 arg7 harg7 h1 v8 v11
        (harg3.unread codes) (harg5.unread ws) k,
      ∀ x : p.1.shape.Idx, p.2 x = weights codes tbl ws (p.1.emb x) := by
  have hk : k.val < 24 := lt_of_lt_of_eq k.isLt trips_eq
  have s0 := fun (r : Fin 16) => stored arg3 harg3 arg5 harg5 codes tbl ws v8 v11 hv k.val hk 0 (by decide) r (8 * r.val) rfl
    (k0_off1 k) (k0_off2 k) (k0_off3 k (BitVec.ofNat 32 (16 * r.val))) (off_codes_0 k) (off_scales_0 k) (off_rows_0 k r)
    (k0_off1_inb i k h1) (k0_off2_inb i k h1) (k0_off3_inb i k h1 r) (rows_in r)
  have s1 := fun (r : Fin 16) => stored arg3 harg3 arg5 harg5 codes tbl ws v8 v11 hv k.val hk 1 (by decide) r (8 * r.val) rfl
    (k0_off4 k) (k0_off5 k) (k0_off6 k (BitVec.ofNat 32 (16 * r.val))) (off_codes_1 k) (off_scales_1 k) (off_rows_1 k r)
    (k0_off4_inb i k h1) (k0_off5_inb i k h1) (k0_off6_inb i k h1 r) (rows_in r)
  have s2 := fun (r : Fin 16) => stored arg3 harg3 arg5 harg5 codes tbl ws v8 v11 hv k.val hk 2 (by decide) r (8 * r.val) rfl
    (k0_off7 k) (k0_off8 k) (k0_off9 k (BitVec.ofNat 32 (16 * r.val))) (off_codes_2 k) (off_scales_2 k) (off_rows_2 k r)
    (k0_off7_inb i k h1) (k0_off8_inb i k h1) (k0_off9_inb i k h1 r) (rows_in r)
  have s3 := fun (r : Fin 16) => stored arg3 harg3 arg5 harg5 codes tbl ws v8 v11 hv k.val hk 3 (by decide) r (8 * r.val) rfl
    (k0_off10 k) (k0_off11 k) (k0_off12 k (BitVec.ofNat 32 (16 * r.val))) (off_codes_3 k) (off_scales_3 k) (off_rows_3 k r)
    (k0_off10_inb i k h1) (k0_off11_inb i k h1) (k0_off12_inb i k h1 r) (rows_in r)
  unfold tripL_k0_t1 trip_k0_t1
  dsimp only
  simp only [List.forall_mem_cons]
  with_unfolding_all exact ⟨s3 15, s3 14, s3 13, s3 12, s3 11, s3 10, s3 9, s3 8, s3 7, s3 6, s3 5, s3 4, s3 3, s3 2, s3 1, s3 0,
    s2 15, s2 14, s2 13, s2 12, s2 11, s2 10, s2 9, s2 8, s2 7, s2 6, s2 5, s2 4, s2 3, s2 2, s2 1, s2 0,
    s1 15, s1 14, s1 13, s1 12, s1 11, s1 10, s1 9, s1 8, s1 7, s1 6, s1 5, s1 4, s1 3, s1 2, s1 1, s1 0,
    s0 15, s0 14, s0 13, s0 12, s0 11, s0 10, s0 9, s0 8, s0 7, s0 6, s0 5, s0 4, s0 3, s0 2, s0 1, s0 0,
    fun _ h => absurd h List.not_mem_nil⟩

end

end Cert.DecodeMatmul
-- ==== Proof.Point.lean ====
module

public import proofs.«01_k».proof.Proof.Trip
public import proofs.«01_k».proof.Proof.Gen.KernelIdeal.Value
public import Idealize.ShloMosaic.Lib.Pipeline.ValueKit.Basic
public import Idealize.ShloMosaic.Lib.VecWindow

/-! One grid point.  At the first point of every column block the decoding loop fills the scratch with the decoded weights
(`scratch_first`); at every point the stored output block is the product of the point's activations with the weights the
scratch holds (`out_first`, `out_later`). -/

@[expose] public section

noncomputable section

namespace Cert.DecodeMatmul

open Cert.KernelIdeal Cert.KernelIdeal.Gen Idealize.ShloMosaic Idealize.ShloMosaic.TcCoe

/-- The product of a block of activations with a block of weights, read at an index. -/
theorem product_apply (x : Vec Ideal S576x6144 .bf16) (w : Vec Ideal S6144x512 .bf16) (a : Fin 576) (b : Fin 512) :
    k0_pay3 x w (ix2 a b) = ∑ k : Fin 6144, x (ix2 a k) * w (ix2 k b) := by
  unfold k0_pay3
  pointwise

section
variable (c : Dev nD) (i : grid0.Coords)
  (arg2 : Memref sig .tc .vmem S576x6144 .bf16) (harg2 : arg2.IsWhole) (arg3 : Memref sig .tc .vmem S512x3072 .i8) (harg3 : arg3.IsWhole)
  (arg4 : Memref sig .tc .vmem S2x128 .i32) (harg4 : arg4.IsWhole) (arg5 : Memref sig .tc .vmem S6x1x512 .f32) (harg5 : arg5.IsWhole)
  (arg6 : Memref sig .tc .vmem S576x512 .bf16) (harg6 : arg6.IsWhole) (arg7 : Memref sig .tc .vmem S6144x512 .bf16) (harg7 : arg7.IsWhole)
  (x : Vec Ideal S576x6144 .bf16) (codes : Vec Ideal S512x3072 .i8) (tbl : Vec Ideal S2x128 .i32) (ws : Vec Ideal S6x1x512 .f32)

/-- The two rows the loop looks codes up in are the table's rows, so that it looks up the table itself. -/
theorem pick_rows (b : BitVec 8) :
    pick (arg4.view.readAt (Elt Ideal) (Rect.unit (s := S2x128) ![0, 0] S1x128.size inb_S2x128_S1x128_0_0).toLoadRect (harg4.unread tbl))
      (arg4.view.readAt (Elt Ideal) (Rect.unit (s := S2x128) ![1, 0] S1x128.size inb_S2x128_S1x128_1_0).toLoadRect (harg4.unread tbl)) b
      = word tbl b := by
  have hb := b.isLt
  unfold pick word
  split
  all_goals
    rw [harg4.readAt_unread]
    refine congrArg tbl ?_
    funext a
    match a with
    | ⟨0, _⟩ => exact Fin.ext (by simp; omega)
    | ⟨1, _⟩ => exact Fin.ext (by simp)

/-- After any number of trips every block stored into the scratch is the decoded weights at its place. -/
theorem trips_weights (h : cond0_0 i) (v8 v11 : Vec Ideal S1x128 .i32) (hv : ∀ b, pick v8 v11 b = word tbl b) (n : ℕ) (hn : n ≤ k0_t1_loop.trips) :
    ∀ p ∈ pb_k0_t1 (F := Ideal) Variants.none c none i arg2 harg2 arg3 harg3 arg4 harg4 arg5 harg5 arg6 harg6 arg7 harg7 h v8 v11
        (harg3.unread codes) (harg5.unread ws) n,
      ∀ y : p.1.shape.Idx, p.2 y = weights codes tbl ws (p.1.emb y) := by
  induction n with
  | zero => intro p hp; exact absurd hp List.not_mem_nil
  | succ n ih =>
    intro p hp
    rw [pb_k0_t1_succ _ _ _ _ _ _ _ _ _ _ _ _ _ _ _ _ _ _ _ _ _ ⟨n, hn⟩] at hp
    rcases List.mem_append.1 hp with hp | hp
    · exact trip_weights Variants.none c none i arg2 harg2 arg3 harg3 arg4 harg4 arg5 harg5 arg6 harg6 arg7 harg7 h v8 v11 codes tbl ws hv ⟨n, hn⟩ p hp
    · exact ih (by omega) p hp

/-- So every block the point that decodes stores into the scratch is the decoded weights at its place. -/
theorem run_weights (h : cond0_0 i) :
    ∀ p ∈ (kernelRun0_A c i arg2 harg2 arg3 harg3 arg4 harg4 arg5 harg5 arg6 harg6 arg7 harg7 h x codes tbl ws).2.1,
      ∀ y : p.1.shape.Idx, p.2 y = weights codes tbl ws (p.1.emb y) := by
  unfold kernelRun0_A
  dsimp only
  exact trips_weights c i arg2 harg2 arg3 harg3 arg4 harg4 arg5 harg5 arg6 harg6 arg7 harg7 codes tbl ws h _ _ (pick_rows arg4 harg4 tbl) _ le_rfl

/-- The point that decodes leaves the decoded weights in the scratch. -/
theorem scratch_first (h : cond0_0 i) :
    sout0_A_0 c i arg2 harg2 arg3 harg3 arg4 harg4 arg5 harg5 arg6 harg6 arg7 harg7 h x codes tbl ws = weights codes tbl ws := by
  funext y
  exact View.read_writes_apply_of_pieces _ _ (weights codes tbl ws) _
    (run_weights c i arg2 harg2 arg3 harg3 arg4 harg4 arg5 harg5 arg6 harg6 arg7 harg7 x codes tbl ws h) y
    (scover0_A_0 c i arg2 harg2 arg3 harg3 arg4 harg4 arg5 harg5 arg6 harg6 arg7 harg7 h x codes tbl ws y)

/-- A load of a whole memref from its first element reads its contents. -/
theorem load_activations : arg2.view.readAt (Elt Ideal) (Rect.unit (s := S576x6144) ![0, 0] S576x6144.size inb_S576x6144_S576x6144_0_0).toLoadRect
    (harg2.unread x) = x := by
  funext y
  rw [harg2.readAt_unread]
  exact congrArg x (Rect.emb_unit_full _ _)

/-- The point that decodes stores the product of its activations with the weights it decoded. -/
theorem out_first (h : cond0_0 i) :
    out0_A_4 c i arg2 harg2 arg3 harg3 arg4 harg4 arg5 harg5 arg6 harg6 arg7 harg7 h x codes tbl ws = k0_pay3 x (weights codes tbl ws) := by
  have hs : (kernelRun0_A c i arg2 harg2 arg3 harg3 arg4 harg4 arg5 harg5 arg6 harg6 arg7 harg7 h x codes tbl ws).1
      = [⟨Rect.unit (s := S576x512) ![0, 0] S576x512.size inb_S576x512_S576x512_0_0,
          k0_pay3 (arg2.view.readAt (Elt Ideal) (Rect.unit (s := S576x6144) ![0, 0] S576x6144.size inb_S576x6144_S576x6144_0_0).toLoadRect (harg2.unread x))
            (arg7.view.readCov (kernelRun0_A c i arg2 harg2 arg3 harg3 arg4 harg4 arg5 harg5 arg6 harg6 arg7 harg7 h x codes tbl ws).2.1
              (Rect.unit (s := S6144x512) ![0, 0] S6144x512.size inb_S6144x512_S6144x512_0_0).toLoadRect)⟩] := by
    with_unfolding_all rfl
  have hw : arg7.view.readCov (Val := Elt Ideal) (kernelRun0_A c i arg2 harg2 arg3 harg3 arg4 harg4 arg5 harg5 arg6 harg6 arg7 harg7 h x codes tbl ws).2.1
              (Rect.unit (s := S6144x512) ![0, 0] S6144x512.size inb_S6144x512_S6144x512_0_0).toLoadRect = weights codes tbl ws := by
    funext y
    refine (View.read_writes_apply_of_pieces _ _ (weights codes tbl ws) _
      (run_weights c i arg2 harg2 arg3 harg3 arg4 harg4 arg5 harg5 arg6 harg6 arg7 harg7 x codes tbl ws h) _
      (scover0_A_0 c i arg2 harg2 arg3 harg3 arg4 harg4 arg5 harg5 arg6 harg6 arg7 harg7 h x codes tbl ws _)).trans ?_
    exact congrArg _ (Rect.emb_unit_full _ _)
  unfold out0_A_4
  rw [hs, hw, load_activations, View.read_writes_junk_eq_canon, View.canon_cons_unit_lit _ _ _ (by decide)]

/-- A later point stores the product of its activations with what the scratch holds. -/
theorem out_later (h : ¬cond0_0 i) (w : Vec Ideal S6144x512 .bf16) :
    out0_B_4 c i arg2 harg2 arg3 harg3 arg4 harg4 arg5 harg5 arg6 harg6 arg7 harg7 h x codes tbl ws w = k0_pay3 x w := by
  have hs : (kernelRun0_B c i arg2 harg2 arg3 harg3 arg4 harg4 arg5 harg5 arg6 harg6 arg7 harg7 h x codes tbl ws w).1
      = [⟨Rect.unit (s := S576x512) ![0, 0] S576x512.size inb_S576x512_S576x512_0_0,
          k0_pay3 (arg2.view.readAt (Elt Ideal) (Rect.unit (s := S576x6144) ![0, 0] S576x6144.size inb_S576x6144_S576x6144_0_0).toLoadRect (harg2.unread x))
            (arg7.view.readAt (Elt Ideal) (Rect.unit (s := S6144x512) ![0, 0] S6144x512.size inb_S6144x512_S6144x512_0_0).toLoadRect (harg7.unread w))⟩] := by
    with_unfolding_all rfl
  have hw : arg7.view.readAt (Elt Ideal) (Rect.unit (s := S6144x512) ![0, 0] S6144x512.size inb_S6144x512_S6144x512_0_0).toLoadRect (harg7.unread w) = w := by
    funext y
    rw [harg7.readAt_unread]
    exact congrArg w (Rect.emb_unit_full _ _)
  unfold out0_B_4
  rw [hs, hw, load_activations, View.read_writes_junk_eq_canon, View.canon_cons_unit_lit _ _ _ (by decide)]

end

end Cert.DecodeMatmul
-- ==== Proof.Array.lean ====
module

public import proofs.«01_k».proof.Proof.Point

/-! The array the kernel leaves.  The six points of one column block see the same codes, table and scales, so all of them
multiply by the weights its first point decoded (`point_value`); put together, the blocks they write are the product of the
activations with the decoded weights (`array_value`). -/

@[expose] public section

noncomputable section

namespace Cert.DecodeMatmul

open Cert.KernelIdeal Cert.KernelIdeal.Gen Cert.KernelIdeal.Value Idealize.ShloMosaic Idealize.ShloMosaic.TcCoe

/-- The decoded weight of input `k` and output `n`: component `k % 2` of the pair the code of column pair `k / 2` selects,
    times the scale of `k`'s group of 1024. -/
def weight (codes : S16384x3072.Idx → BitVec 8) (tbl : S2x128.Idx → BitVec 32) (ws : S16384x6.Idx → EReal) (k : Fin 6144) (n : Fin 16384) : EReal :=
  component tbl (codes (ix2 n ⟨k.val / 2, by have := k.isLt; omega⟩)) (k.val % 2) * ws (ix2 n ⟨k.val / 1024, by have := k.isLt; omega⟩)

/-- The product of the activations with the decoded weights. -/
def product (x : S3456x6144.Idx → EReal) (codes : S16384x3072.Idx → BitVec 8) (tbl : S2x128.Idx → BitVec 32) (ws : S16384x6.Idx → EReal) :
    S3456x16384.Idx → EReal :=
  fun i => ∑ k : Fin 6144, x (ix2 (i 0) k) * weight codes tbl ws k (i 1)

theorem index_x : ∀ t : Fin cfg0.N, win0_0.index t (0 : Fin 2) = t.val % 6 ∧ win0_0.index t (1 : Fin 2) = 0 :=
  (by decide +kernel : ∀ t : Fin grid0.N, _)
theorem index_codes : ∀ t : Fin cfg0.N, win0_1.index t (0 : Fin 2) = t.val / 6 ∧ win0_1.index t (1 : Fin 2) = 0 :=
  (by decide +kernel : ∀ t : Fin grid0.N, _)
theorem index_tbl : ∀ t : Fin cfg0.N, win0_2.index t (0 : Fin 2) = 0 ∧ win0_2.index t (1 : Fin 2) = 0 :=
  (by decide +kernel : ∀ t : Fin grid0.N, _)
theorem index_ws : ∀ t : Fin cfg0.N, win0_3.index t (0 : Fin 3) = 0 ∧ win0_3.index t (1 : Fin 3) = 0 ∧ win0_3.index t (2 : Fin 3) = t.val / 6 :=
  (by decide +kernel : ∀ t : Fin grid0.N, _)

variable (m : (ℓ : Loc nD τ sig) → Buf (Elt Ideal) ℓ) (c : Dev nD)

/-- The scales the launch hands the kernel: the scales transposed, with a unit axis between group and column. -/
theorem scales_apply (g : Fin 6) (n : Fin 16384) :
    (V m c main_v1 : S6x1x16384.Idx → EReal) (ix3 g 0 n) = (m ((c : Thread nD τ).loc main_arg3) : S16384x6.Idx → EReal) (ix2 n g) := by
  rw [show V m c main_v1 = (shapeCast S6x1x16384 (transpose S6x16384 [1, 0] (m ((c : Thread nD τ).loc main_arg3) : Vec Ideal S16384x6 .f32)
    transposes_S16384x6_S6x16384_1_0) shapeCasts_S6x16384_S6x1x16384 : Vec Ideal S6x1x16384 .f32) from by
      show StableHlo.after hostOps0 _ _ = _
      rfl]
  pointwise

theorem point_lt (t : Fin cfg0.N) : t.val < 192 := lt_of_lt_of_eq t.isLt N_0

/-- The activations point `t` sees: its 576 rows. -/
theorem x_block (t : Fin cfg0.N) (a : Fin 576) (k : Fin 6144) :
    (iblk m c 0 t : S576x6144.Idx → EReal) (ix2 a k)
      = (m ((c : Thread nD τ).loc main_arg0) : S3456x6144.Idx → EReal) (ix2 ⟨576 * (t.val % 6) + a.val, by have := a.isLt; omega⟩ k) := by
  rw [← V_main_arg0 m c]
  refine congrArg (V m c main_arg0 : S3456x6144.Idx → EReal) ?_
  obtain ⟨e0, e1⟩ := index_x t
  funext b
  match b with
  | ⟨0, _⟩ => exact Fin.ext (show win0_0.index t (0 : Fin 2) * 576 + 1 * a.val = _ by rw [e0]; show _ = 576 * (t.val % 6) + a.val; omega)
  | ⟨1, _⟩ => exact Fin.ext (show win0_0.index t (1 : Fin 2) * 6144 + 1 * k.val = _ by rw [e1]; show _ = k.val; omega)

/-- The codes point `t` sees: its 512 columns'. -/
theorem codes_block (t : Fin cfg0.N) (l : Fin 512) (j : Fin 3072) :
    (iblk m c 1 t : S512x3072.Idx → BitVec 8) (ix2 l j)
      = (m ((c : Thread nD τ).loc main_arg1) : S16384x3072.Idx → BitVec 8)
          (ix2 ⟨512 * (t.val / 6) + l.val, by have := l.isLt; have := point_lt t; omega⟩ j) := by
  rw [← V_main_arg1 m c]
  refine congrArg (V m c main_arg1 : S16384x3072.Idx → BitVec 8) ?_
  obtain ⟨e0, e1⟩ := index_codes t
  funext b
  match b with
  | ⟨0, _⟩ => exact Fin.ext (show win0_1.index t (0 : Fin 2) * 512 + 1 * l.val = _ by rw [e0]; show _ = 512 * (t.val / 6) + l.val; omega)
  | ⟨1, _⟩ => exact Fin.ext (show win0_1.index t (1 : Fin 2) * 3072 + 1 * j.val = _ by rw [e1]; show _ = j.val; omega)

/-- Every point sees the whole table. -/
theorem tbl_block (t : Fin cfg0.N) : (iblk m c 2 t : S2x128.Idx → BitVec 32) = (m ((c : Thread nD τ).loc main_arg2) : S2x128.Idx → BitVec 32) := by
  rw [← V_main_arg2 m c]
  funext y
  refine congrArg (V m c main_arg2 : S2x128.Idx → BitVec 32) ?_
  obtain ⟨e0, e1⟩ := index_tbl t
  funext b
  match b with
  | ⟨0, _⟩ => exact Fin.ext (show win0_2.index t (0 : Fin 2) * 2 + 1 * (y 0).val = _ by rw [e0]; show _ = (y 0).val; omega)
  | ⟨1, _⟩ => exact Fin.ext (show win0_2.index t (1 : Fin 2) * 128 + 1 * (y 1).val = _ by rw [e1]; show _ = (y 1).val; omega)

/-- The scales point `t` sees: its 512 columns'. -/
theorem ws_block (t : Fin cfg0.N) (g : Fin 6) (l : Fin 512) :
    (iblk m c 3 t : S6x1x512.Idx → EReal) (ix3 g 0 l)
      = (m ((c : Thread nD τ).loc main_arg3) : S16384x6.Idx → EReal)
          (ix2 ⟨512 * (t.val / 6) + l.val, by have := l.isLt; have := point_lt t; omega⟩ g) := by
  rw [← scales_apply m c]
  refine congrArg (V m c main_v1 : S6x1x16384.Idx → EReal) ?_
  obtain ⟨e0, e1, e2⟩ := index_ws t
  funext b
  match b with
  | ⟨0, _⟩ => exact Fin.ext (show win0_3.index t (0 : Fin 3) * 6 + 1 * g.val = _ by rw [e0]; show _ = g.val; omega)
  | ⟨1, _⟩ => exact Fin.ext (show win0_3.index t (1 : Fin 3) * 1 + 1 * 0 = _ by rw [e1]; rfl)
  | ⟨2, _⟩ => exact Fin.ext (show win0_3.index t (2 : Fin 3) * 512 + 1 * l.val = _ by rw [e2]; show _ = 512 * (t.val / 6) + l.val; omega)

/-- The weights of point `t`'s codes, table and scales. -/
def pointWeights (t : Fin cfg0.N) : Vec Ideal S6144x512 .bf16 := weights (iblk m c 1 t) (iblk m c 2 t) (iblk m c 3 t)

theorem pointWeights_apply (t : Fin cfg0.N) (k : Fin 6144) (l : Fin 512) :
    pointWeights m c t (ix2 k l)
      = weight (m ((c : Thread nD τ).loc main_arg1)) (m ((c : Thread nD τ).loc main_arg2)) (m ((c : Thread nD τ).loc main_arg3)) k
          ⟨512 * (t.val / 6) + l.val, by have := l.isLt; have := point_lt t; omega⟩ := by
  refine (weights_at _ _ _ _ k.val l.val k.isLt l.isLt rfl rfl).trans ?_
  rw [codes_block, tbl_block, ws_block]
  rfl

/-- Two points of one column block have the same weights. -/
theorem pointWeights_congr (t s : Fin cfg0.N) (h : t.val / 6 = s.val / 6) : pointWeights m c t = pointWeights m c s := by
  funext y
  obtain ⟨k, l, rfl⟩ : ∃ (k : Fin 6144) (l : Fin 512), y = ix2 k l := ⟨y 0, y 1, eq_ix2 y⟩
  rw [pointWeights_apply, pointWeights_apply]
  refine congrArg _ (Fin.ext ?_)
  show 512 * (t.val / 6) + l.val = 512 * (s.val / 6) + l.val
  rw [h]

/-- After every point the scratch holds the point's weights. -/
theorem scratch_value : ∀ (n : ℕ) (hn : n < cfg0.N), (outsAt0 m c n hn).2 = pointWeights m c ⟨n, hn⟩ := by
  intro n
  induction n with
  | zero =>
    intro hn
    rw [outsAt0_A m c ⟨0, hn⟩ (Nat.zero_mod _)]
    exact scratch_first ..
  | succ n ih =>
    intro hn
    by_cases h : (n + 1) % 6 = 0
    · rw [outsAt0_A m c ⟨n + 1, hn⟩ h]
      exact scratch_first ..
    · rw [outsAt0_B m c ⟨n + 1, hn⟩ h]
      show (outsAt0 m c n _).2 = _
      rw [ih]
      exact pointWeights_congr m c _ _ (by show n / 6 = (n + 1) / 6; omega)

/-- After every point the output block is the product of the point's activations with its weights. -/
theorem point_value (t : Fin cfg0.N) : (outsAt0 m c t.val t.isLt).1 = k0_pay3 (iblk m c 0 t) (pointWeights m c t) := by
  by_cases h : t.val % 6 = 0
  · rw [outsAt0_A m c t h]
    dsimp only
    rw [out_first]
    rfl
  · rw [outsAt0_B m c t h]
    dsimp only
    rw [out_later, scratch_value]
    refine congrArg _ (pointWeights_congr m c _ _ ?_)
    show (t.val - 1) / 6 = t.val / 6
    omega

/-- The array the kernel leaves is the product of the activations with the decoded weights. -/
theorem array_value : (G4 m c : S3456x16384.Idx → EReal)
    = product (m ((c : Thread nD τ).loc main_arg0)) (m ((c : Thread nD τ).loc main_arg1)) (m ((c : Thread nD τ).loc main_arg2))
        (m ((c : Thread nD τ).loc main_arg3)) := by
  funext i
  have h0 : (i 0).val < 3456 := (i 0).isLt
  have h1 : (i 1).val < 16384 := (i 1).isLt
  have hp : pt4Of i < cfg0.N := lt_of_lt_of_eq (by show 1 * ((i 0).val / 576 - 0) + 6 * ((i 1).val / 512 - 0) < 192; omega) N_0.symm
  unfold G4
  rw [dif_pos hp, ← outsAt0_sweep m c _ hp, point_value m c ⟨_, hp⟩]
  have hl : loc4Of i = ix2 ⟨(i 0).val % 576, Nat.mod_lt _ (by decide)⟩ ⟨(i 1).val % 512, Nat.mod_lt _ (by decide)⟩ := by
    funext b
    match b with
    | ⟨0, _⟩ => rfl
    | ⟨1, _⟩ => rfl
  rw [hl]
  refine (product_apply ..).trans ?_
  refine Finset.sum_congr rfl fun k _ => ?_
  rw [x_block, pointWeights_apply]
  refine congrArg₂ (· * ·) (congrArg (fun r => (m ((c : Thread nD τ).loc main_arg0) : S3456x6144.Idx → EReal) (ix2 r k)) (Fin.ext ?_)) (congrArg _ (Fin.ext ?_))
  · show 576 * ((1 * ((i 0).val / 576 - 0) + 6 * ((i 1).val / 512 - 0)) % 6) + (i 0).val % 576 = (i 0).val
    omega
  · show 512 * ((1 * ((i 0).val / 576 - 0) + 6 * ((i 1).val / 512 - 0)) / 6) + (i 1).val % 512 = (i 1).val
    omega

end Cert.DecodeMatmul
-- ==== Proof.Contract.lean ====
module

public import Idealize.ShloMosaic.Lib.Pointwise

/-! A contraction over three axes, as the sum over one flat index.  The contracted coordinates of a contraction over axes
of sizes `A`, `B` and `C` are read off one number below `A * B * C`, in row-major order. -/

@[expose] public section

namespace Idealize.ShloMosaic.DotDims

variable {sl sr so : Shape} (d : DotDims sl sr so) {a b c : Fin sl.rank} (hc : d.lhsContracting = [a, b, c]) {A B C : ℕ}
  (hA : sl.size a = A) (hB : sl.size b = B) (hC : sl.size c = C)

include hc in
theorem rank_contr₃ : d.contr.rank = 3 := by
  rw [d.rank_contr, hc]; rfl

include hc hA hB hC in
/-- The sizes of the three contracted axes. -/
theorem size_contr₃ (p : Fin d.contr.rank) :
    (if p.val = 0 then A else if p.val = 1 then B else C) = d.contr.size p := by
  subst hA hB hC
  have : ∀ (l : List (Fin sl.rank)) (_ : l = [a, b, c]) (p : Fin (l.map sl.size).length),
      (if p.val = 0 then sl.size a else if p.val = 1 then sl.size b else sl.size c) = (l.map sl.size)[p] := by
    rintro _ rfl ⟨p, hp⟩
    have : p = 0 ∨ p = 1 ∨ p = 2 := by simp at hp; omega
    rcases this with rfl | rfl | rfl <;> rfl
  exact this _ hc p

/-- The contraction index with the given three coordinates. -/
def contrIdx₃ (x : Fin A) (y : Fin B) (z : Fin C) : d.contr.Idx := fun p =>
  if h : p.val = 0 then x.cast (by rw [← d.size_contr₃ hc hA hB hC p, if_pos h])
  else if h' : p.val = 1 then y.cast (by rw [← d.size_contr₃ hc hA hB hC p, if_neg h, if_pos h'])
  else z.cast (by rw [← d.size_contr₃ hc hA hB hC p, if_neg h, if_neg h'])

/-- Contraction indices over three axes are the triples of coordinates on those axes. -/
def contrEquiv₃ : Fin A × Fin B × Fin C ≃ d.contr.Idx where
  toFun k := d.contrIdx₃ hc hA hB hC k.1 k.2.1 k.2.2
  invFun kk :=
    ((kk ⟨0, by rw [d.rank_contr₃ hc]; omega⟩).cast (d.size_contr₃ hc hA hB hC _).symm,
     (kk ⟨1, by rw [d.rank_contr₃ hc]; omega⟩).cast (d.size_contr₃ hc hA hB hC _).symm,
     (kk ⟨2, by rw [d.rank_contr₃ hc]; omega⟩).cast (d.size_contr₃ hc hA hB hC _).symm)
  left_inv _ := rfl
  right_inv kk := by
    funext p
    have : p = ⟨0, by rw [d.rank_contr₃ hc]; omega⟩ ∨ p = ⟨1, by rw [d.rank_contr₃ hc]; omega⟩ ∨
        p = ⟨2, by rw [d.rank_contr₃ hc]; omega⟩ := by
      have := d.rank_contr₃ hc
      rcases p with ⟨p, hp⟩
      simp only [Fin.mk.injEq]; omega
    rcases this with rfl | rfl | rfl <;> rfl

/-- A sum over a three-axis contraction's indices is the triple sum over the axes' coordinates. -/
theorem sum_contr₃ {M : Type*} [AddCommMonoid M] (f : d.contr.Idx → M) :
    ∑ kk : d.contr.Idx, f kk = ∑ x : Fin A, ∑ y : Fin B, ∑ z : Fin C, f (d.contrIdx₃ hc hA hB hC x y z) := by
  rw [← Fintype.sum_equiv (d.contrEquiv₃ hc hA hB hC) (fun k => f (d.contrIdx₃ hc hA hB hC k.1 k.2.1 k.2.2)) f fun _ => rfl]
  simp only [Fintype.sum_prod_type]

end Idealize.ShloMosaic.DotDims

namespace Idealize.ShloMosaic

/-- A triple sum in row-major order is the sum over the flat index. -/
theorem sum_flat₃ {M : Type*} [AddCommMonoid M] (A B C N : ℕ) (hN : A * (B * C) = N) (hC : 0 < C) (hB : 0 < B) (f : Fin A → Fin B → Fin C → M) :
    ∑ x, ∑ y, ∑ z, f x y z
      = ∑ k : Fin N, f ⟨k.val / (B * C), Nat.div_lt_of_lt_mul (by rw [Nat.mul_comm, hN]; exact k.isLt)⟩
          ⟨k.val / C % B, Nat.mod_lt _ hB⟩ ⟨k.val % C, Nat.mod_lt _ hC⟩ := by
  subst hN
  rw [← Fintype.sum_equiv (finProdFinEquiv (m := A) (n := B * C)) (fun q => ∑ _u : Unit, f q.1 ⟨q.2.val / C % B, Nat.mod_lt _ hB⟩ ⟨q.2.val % C, Nat.mod_lt _ hC⟩) _ ?_]
  · rw [Fintype.sum_prod_type]
    refine Finset.sum_congr rfl fun x _ => ?_
    rw [← Fintype.sum_equiv (finProdFinEquiv (m := B) (n := C)) (fun q => f x q.1 q.2) _ ?_]
    · rw [Fintype.sum_prod_type]
    · rintro ⟨y, z⟩
      simp only [Finset.univ_unique, Finset.sum_const, Finset.card_singleton, one_smul, finProdFinEquiv_apply_val]
      congr 1
      · exact Fin.ext (by show y.val = (z.val + C * y.val) / C % B; rw [Nat.add_mul_div_left _ _ hC, Nat.div_eq_of_lt z.isLt, Nat.zero_add, Nat.mod_eq_of_lt y.isLt])
      · exact Fin.ext (by show z.val = (z.val + C * y.val) % C; rw [Nat.add_mul_mod_self_left, Nat.mod_eq_of_lt z.isLt])
  · rintro ⟨x, w⟩
    have hw : 0 < B * C := Nat.mul_pos hB hC
    simp only [Finset.univ_unique, Finset.sum_const, Finset.card_singleton, one_smul, finProdFinEquiv_apply_val]
    have e1 : (w.val + B * C * x.val) / (B * C) = x.val := by
      rw [Nat.add_mul_div_left _ _ hw, Nat.div_eq_of_lt w.isLt, Nat.zero_add]
    have e2 : (w.val + B * C * x.val) / C % B = w.val / C % B := by
      rw [show w.val + B * C * x.val = w.val + C * (B * x.val) by ring, Nat.add_mul_div_left _ _ hC, Nat.add_mul_mod_self_left]
    have e3 : (w.val + B * C * x.val) % C = w.val % C := by
      rw [show w.val + B * C * x.val = w.val + C * (B * x.val) by ring, Nat.add_mul_mod_self_left]
    congr 1 <;> exact Fin.ext (by first | exact e1.symm | exact e2.symm | exact e3.symm)

end Idealize.ShloMosaic
-- ==== Proof.Reference.lean ====
module

public import proofs.«01_k».proof.Proof.Gen.ReferenceIdeal.Run
public import proofs.«01_k».proof.Proof.Array
public import proofs.«01_k».proof.Proof.Contract
public import Idealize.ShloMosaic.Lib.Pointwise
public import Idealize.ShloMosaic.Lib.BitcastConvert

/-! What the reference computes.  It looks every code up in the codebook (`lookup`), scales the pair by its group's scale
(`decoded_apply`) and contracts over group, pair and component; read at an index that is the sum over the 6144 inputs that
`product` states (`reference_value`). -/

@[expose] public section

noncomputable section

namespace Cert.DecodeMatmul.Spec

open Cert.ReferenceIdeal Cert.ReferenceIdeal.Gen Idealize.ShloMosaic Idealize.ShloMosaic.TcCoe

/-- The reference's codebook: the packed words as pairs of numbers. -/
def codebook (tbl : Vec Ideal S2x128 .i32) : FVec Ideal S256x2 .bf16 :=
  bitcastToFloat .bf16 (Host.bitcastConvertNarrow S256x2 16 (shapeCast S256 tbl shapeCasts_S2x128_S256) splits_S256_w32_S256x2_w16)

/-- The codes as indices: widened, with the wrap of a negative index. -/
def rows (codes : Vec Ideal S16384x3072 .i8) : IVec S16384x3072x1 32 :=
  broadcastInDim S16384x3072x1 ![0, 1] bcast_S16384x3072_S16384x3072x1_0_1
    (select (cmpi .slt (extui 32 codes natLt_8_32) (broadcastInDim S16384x3072 ![] bcast_S_S16384x3072 (constantI S_ 32 0#32)))
      (addi (extui 32 codes natLt_8_32) (broadcastInDim S16384x3072 ![] bcast_S_S16384x3072 (constantI S_ 32 256#32)))
      (extui 32 codes natLt_8_32))

/-- The decoded weights by output, group, pair and component. -/
def decoded (codes : Vec Ideal S16384x3072 .i8) (tbl : Vec Ideal S2x128 .i32) (ws : Vec Ideal S16384x6 .f32) : FVec Ideal S16384x6x512x2 .bf16 :=
  mulf (shapeCast _ (Host.gather gather_S256x2_S16384x3072x1_S16384x3072x2_2_0_n_n_0_2_12 (codebook tbl) (rows codes))
      shapeCasts_S16384x3072x2_S16384x6x512x2)
    (broadcastInDim S16384x6x512x2 ![0, 1, 2, 3] bcast_S16384x6x1x1_S16384x6x512x2_0_1_2_3
      (broadcastInDim S16384x6x1x1 ![0, 1] bcast_S16384x6_S16384x6x1x1_0_1 (truncf .bf16 ws bitsLt_bf16_f32)))

/-- Component `p` of the codebook's entry `q`. -/
theorem codebook_apply (tbl : Vec Ideal S2x128 .i32) (q : BitVec 8) (p : Fin 2) :
    (codebook tbl : S256x2.Idx → EReal) (ix2 ⟨q.toNat, q.isLt⟩ p) = component tbl q p.val := by
  unfold codebook component word
  pointwise [Host.bitcastConvertNarrow_apply]
  rw [Nat.mul_comm]

/-- A byte widened with zeros is its own index into 256 rows: it does not wrap, and nothing is clamped. -/
theorem row_word (b : BitVec 8) :
    min (Scalar.select (IntOp.cmpi .slt (b.setWidth 32) 0#32) (IntOp.addi (b.setWidth 32) 256#32) (b.setWidth 32)).toInt.toNat 255 = b.toNat := by
  revert b; decide +kernel

theorem rows_apply (codes : Vec Ideal S16384x3072 .i8) (n : Fin 16384) (j : Fin 3072) :
    min ((rows codes : S16384x3072x1.Idx → BitVec 32) (ix3 n j 0)).toInt.toNat 255 = (codes (ix2 n j) : BitVec 8).toNat := by
  unfold rows
  pointwise
  exact row_word _

/-- The lookup of the codes in the codebook, at an index. -/
theorem lookup (cb : FVec Ideal S256x2 .bf16) (r : IVec S16384x3072x1 32) (n : Fin 16384) (j : Fin 3072) (p : Fin 2) (q : ℕ) (hq : q < 256)
    (h : min (r (ix3 n j 0)).toInt.toNat 255 = q) :
    (Host.gather gather_S256x2_S16384x3072x1_S16384x3072x2_2_0_n_n_0_2_12 cb r : S16384x3072x2.Idx → EReal) (ix3 n j p)
      = cb (ix2 ⟨q, hq⟩ p) := by
  unfold Host.gather
  refine congrArg cb (funext fun a => Fin.ext ?_)
  have e : gather_S256x2_S16384x3072x1_S16384x3072x2_2_0_n_n_0_2_12.siIdx (ix3 n j p) ⟨0, by decide⟩ = (ix3 n j 0 : S16384x3072x1.Idx) := by
    funext b
    match b with
    | ⟨0, _⟩ => rfl
    | ⟨1, _⟩ => rfl
    | ⟨2, _⟩ => rfl
  match a with
  | ⟨0, h0⟩ =>
    show GatherDims.start _ _ _ (0 : Fin S256x2.rank) + GatherDims.batchCoord _ _ (0 : Fin S256x2.rank) + GatherDims.offCoord _ _ (0 : Fin S256x2.rank) = q
    rw [GatherDims.batchCoord_eq_zero _ _ _ (by decide), GatherDims.offCoord_eq_zero _ _ _ (by decide), ← h, ← e]
    rfl
  | ⟨1, h1⟩ =>
    show GatherDims.start _ _ _ (1 : Fin S256x2.rank) + GatherDims.batchCoord _ _ (1 : Fin S256x2.rank) + GatherDims.offCoord _ _ (1 : Fin S256x2.rank) = p.val
    have z : GatherDims.start gather_S256x2_S16384x3072x1_S16384x3072x2_2_0_n_n_0_2_12 (ix3 n j p) r (1 : Fin S256x2.rank) = 0 := by
      unfold GatherDims.start; rw [dif_neg (by decide)]
    rw [z, GatherDims.batchCoord_eq_zero _ _ _ (by decide), Nat.zero_add]
    unfold GatherDims.offCoord
    rw [dif_pos (by decide)]
    rfl

/-- The decoded weight of output `n` in group `g`, pair `j`, component `p`. -/
theorem decoded_apply (codes : Vec Ideal S16384x3072 .i8) (tbl : Vec Ideal S2x128 .i32) (ws : Vec Ideal S16384x6 .f32)
    (n : Fin 16384) (g : Fin 6) (j : Fin 512) (p : Fin 2) :
    (decoded codes tbl ws : S16384x6x512x2.Idx → EReal) (ix4 n g j p)
      = component tbl (codes (ix2 n ⟨512 * g.val + j.val, by have := g.isLt; have := j.isLt; omega⟩)) p.val * ws (ix2 n g) := by
  unfold decoded
  pointwise
  rw [lookup _ _ _ _ _ _ (codes _).isLt (rows_apply codes _ _), codebook_apply]
  refine congrArg (fun i => component tbl (codes i) p.val * ws (ix2 n g)) (funext fun a => ?_)
  match a with
  | ⟨0, _⟩ => rfl
  | ⟨1, _⟩ => exact Fin.ext (by show g.val * 512 + j.val = 512 * g.val + j.val; omega)

/-- The contraction of the reference over group, pair and component. -/
abbrev dims : DotDims S3456x6x512x2 S16384x6x512x2 S3456x16384 :=
  dot_S3456x6x512x2_S16384x6x512x2_S3456x16384_123_123_0_0_n_n

/-- The contraction at an index, as a triple sum. -/
theorem dot_apply (a : FVec Ideal S3456x6x512x2 .bf16) (b : FVec Ideal S16384x6x512x2 .bf16) (m : Fin 3456) (n : Fin 16384) :
    (Host.dotGeneral dims none a b : FVec Ideal S3456x16384 .f32) (ix2 m n)
      = ∑ g : Fin 6, ∑ j : Fin 512, ∑ p : Fin 2, (a (ix4 m g j p) : EReal) * b (ix4 n g j p) := by
  show (0 : EReal) + ∑ kk : dims.contr.Idx, (a (dims.lhsIdx (ix2 m n) kk) : EReal) * b (dims.rhsIdx (ix2 m n) kk) = _
  rw [zero_add, dims.sum_contr₃ (A := 6) (B := 512) (C := 2) rfl rfl rfl rfl]
  refine Finset.sum_congr rfl fun g _ => Finset.sum_congr rfl fun j _ => Finset.sum_congr rfl fun p _ => ?_
  refine congrArg₂ (· * ·) (congrArg a ?_) (congrArg b ?_)
  · funext q
    match q with
    | ⟨0, _⟩ => rfl
    | ⟨1, _⟩ => rfl
    | ⟨2, _⟩ => rfl
    | ⟨3, _⟩ => rfl
  · funext q
    match q with
    | ⟨0, _⟩ => rfl
    | ⟨1, _⟩ => rfl
    | ⟨2, _⟩ => rfl
    | ⟨3, _⟩ => rfl

/-- The reference's result is the product of the activations with the decoded weights. -/
theorem reference_value (x : Vec Ideal S3456x6144 .bf16) (codes : Vec Ideal S16384x3072 .i8) (tbl : Vec Ideal S2x128 .i32)
    (ws : Vec Ideal S16384x6 .f32) :
    (truncf .bf16 (Host.dotGeneral dims none (shapeCast S3456x6x512x2 x shapeCasts_S3456x6144_S3456x6x512x2 : FVec Ideal S3456x6x512x2 .bf16) (decoded codes tbl ws) : FVec Ideal S3456x16384 .f32) bitsLt_bf16_f32
      : S3456x16384.Idx → EReal) = product x codes tbl ws := by
  funext i
  obtain ⟨m, n, rfl⟩ : ∃ (m : Fin 3456) (n : Fin 16384), i = ix2 m n := ⟨i 0, i 1, eq_ix2 i⟩
  refine (dot_apply _ _ m n).trans ?_
  show _ = ∑ k : Fin 6144, x (ix2 m k) * weight codes tbl ws k n
  rw [sum_flat₃ 6 512 2 6144 rfl (by decide) (by decide)]
  refine Finset.sum_congr rfl fun k _ => ?_
  rw [decoded_apply]
  unfold weight
  refine congrArg₂ (· * ·) ?_ (congrArg₂ (· * ·) ?_ rfl)
  · pointwise
  · refine congrArg (fun q => component tbl (codes q) (k.val % 2)) (funext fun a => ?_)
    match a with
    | ⟨0, _⟩ => rfl
    | ⟨1, _⟩ => exact Fin.ext (by show 512 * (k.val / (512 * 2)) + k.val / 2 % 512 = k.val / 2; omega)

end Cert.DecodeMatmul.Spec
-- ==== Proof.Exponent.lean ====
module

public import Idealize.ShloMosaic.Lib.Pointwise
public import Idealize.ShloMosaic.Lib.WordSum

/-! The exponent of a scale.  For a real `r ≥ 0` below `2 ^ 126` the exponent is `⌊log₂ r⌋ + 1`, and 0 below `2 ^ -126`.  Counting
the powers of two `r` lies below gives it as an f32 exponent field (`card_above`); the logarithm gives it too (`log_ratio`). -/

@[expose] public section

noncomputable section

namespace Cert.RotateQuant

open Idealize.ShloMosaic

/-- The exponent `e` with `2 ^ (e - 1) ≤ r < 2 ^ e`, and 0 for an `r` below the least normal f32 number. -/
def exponent (r : ℝ) : ℤ := if r < (2 : ℝ) ^ (-126 : ℤ) then 0 else ⌊Real.log r / Real.log 2⌋ + 1

/-- The f32 exponent field of `r`. -/
def field (r : ℝ) : ℕ := if r < (2 : ℝ) ^ (-126 : ℤ) then 0 else (⌊Real.log r / Real.log 2⌋ + 127).toNat

/-- The extended real denoted by the f32 word with exponent field `k` and nothing else. -/
def power (k : ℕ) : EReal := Ideal.ofBits .f32 (BitVec.ofNat 32 k <<< 23)

theorem power_fields : ∀ k : Fin 256, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

theorem power_zero : power 0 = 0 := by simp [power, Ideal.ofBits, Ideal.ieee]

theorem power_last : power 255 = ⊤ := by
  obtain ⟨h1, h2, h3⟩ := power_fields ⟨255, by decide⟩
  unfold power Ideal.ofBits Ideal.ieee
  dsimp only at h1 h2 h3 ⊢
  rw [h1, h2, h3]
  simp

theorem power_normal (k : ℕ) (h : 1 ≤ k) (h' : k ≤ 254) : power k = (((2 : ℝ) ^ ((k : ℤ) - 127) : ℝ) : EReal) := by
  obtain ⟨h1, h2, h3⟩ := power_fields ⟨k, by omega⟩
  unfold power Ideal.ofBits Ideal.ieee
  dsimp only at h1 h2 h3 ⊢
  rw [h1, h2, h3, if_neg (by norm_num; omega), if_neg (by omega)]
  refine congrArg _ ?_
  have h2 : ((k : ℤ) - (2 ^ (8 - 1) - 1) - ((23 : ℕ) : ℤ)) = ((k : ℤ) - 127) - 23 := by norm_num
  rw [h2, zpow_sub₀ (by norm_num : (2 : ℝ) ≠ 0)]
  push_cast
  norm_num
  ring

/-- A power of two lies above `r` when its exponent lies above the floor of `r`'s logarithm. -/
theorem lt_two_zpow_iff (r : ℝ) (h : 0 < r) (z : ℤ) : r < (2 : ℝ) ^ z ↔ ⌊Real.log r / Real.log 2⌋ < z := by
  rw [Int.floor_lt, div_lt_iff₀ (Real.log_pos (by norm_num)), ← Real.log_zpow, Real.log_lt_log_iff h (by positivity)]

/-- `r` has a logarithm between the ends of the range. -/
theorem log_bounds (r : ℝ) (hr : ¬r < (2 : ℝ) ^ (-126 : ℤ)) (h : r < (2 : ℝ) ^ (126 : ℤ)) :
    0 < r ∧ -126 ≤ ⌊Real.log r / Real.log 2⌋ ∧ ⌊Real.log r / Real.log 2⌋ < 126 := by
  have h0 : 0 < r := lt_of_lt_of_le (by positivity) (not_lt.1 hr)
  rw [lt_two_zpow_iff r h0] at hr h
  exact ⟨h0, not_lt.1 hr, h⟩

theorem field_le (r : ℝ) (h : r < (2 : ℝ) ^ (126 : ℤ)) : field r ≤ 252 := by
  unfold field
  split
  · omega
  · rename_i hr
    obtain ⟨_, h1, h2⟩ := log_bounds r hr h
    omega

/-- The exponent in terms of the field. -/
theorem exponent_eq_field (r : ℝ) (h : r < (2 : ℝ) ^ (126 : ℤ)) : exponent r = if field r = 0 then 0 else (field r : ℤ) - 126 := by
  unfold exponent field
  split
  · rfl
  · rename_i hr
    obtain ⟨_, h1, h2⟩ := log_bounds r hr h
    split <;> omega

/-- `r` lies below exactly the powers of two whose field exceeds its own. -/
theorem lt_power_iff (r : ℝ) (h0 : 0 ≤ r) (h : r < (2 : ℝ) ^ (126 : ℤ)) (k : Fin 256) : (r : EReal) < power k.val ↔ field r < k.val := by
  have hk := k.isLt
  rcases Nat.eq_zero_or_pos k.val with e | e
  · rw [e, power_zero]
    constructor
    · intro hlt
      exact absurd (EReal.coe_lt_coe_iff.1 hlt) (not_lt.2 h0)
    · intro hlt
      omega
  · by_cases e' : k.val = 255
    · rw [e', power_last]
      have := field_le r h
      exact ⟨fun _ => by omega, fun _ => EReal.coe_lt_top r⟩
    · rw [power_normal k.val e (by omega), EReal.coe_lt_coe_iff]
      unfold field
      split
      · rename_i hr
        refine ⟨fun _ => e, fun _ => lt_of_lt_of_le hr ?_⟩
        exact zpow_le_zpow_right₀ (by norm_num) (by omega)
      · rename_i hr
        obtain ⟨hp, h1, h2⟩ := log_bounds r hr h
        rw [lt_two_zpow_iff r hp]
        omega

/-- So the number of the 256 powers above `r` is 255 less its field. -/
theorem card_above (r : ℝ) (h0 : 0 ≤ r) (h : r < (2 : ℝ) ^ (126 : ℤ)) :
    (Finset.univ.filter fun k : Fin 256 => (r : EReal) < power k.val).card = 255 - field r := by
  have hf := field_le r h
  rw [show (Finset.univ.filter fun k : Fin 256 => (r : EReal) < power k.val) = Finset.Ioi ⟨field r, by omega⟩ from by
    ext k
    rw [Finset.mem_filter, Finset.mem_Ioi, lt_power_iff r h0 h k]
    exact ⟨fun h => h.2, fun h => ⟨Finset.mem_univ _, h⟩⟩, Fin.card_Ioi]

/-- The exponent an integer word computes from the field, and the exponent fields of the scale and of its reciprocal. -/
theorem scale_words : ∀ n : Fin 253,
    ((if (255#32 - BitVec.ofNat 32 (255 - n.val)) = 0#32 then 0#32 else (255#32 - BitVec.ofNat 32 (255 - n.val)) - 126#32) + 127#32)
        = BitVec.ofNat 32 (if n.val = 0 then 127 else n.val + 1)
      ∧ (127#32 - (if (255#32 - BitVec.ofNat 32 (255 - n.val)) = 0#32 then 0#32 else (255#32 - BitVec.ofNat 32 (255 - n.val)) - 126#32))
        = BitVec.ofNat 32 (if n.val = 0 then 127 else 253 - n.val) := by
  decide +kernel

theorem power_scale (r : ℝ) (h : r < (2 : ℝ) ^ (126 : ℤ)) :
    power (if field r = 0 then 127 else field r + 1) = (((2 : ℝ) ^ exponent r : ℝ) : EReal) := by
  have hf := field_le r h
  rw [exponent_eq_field r h]
  split
  · rw [power_normal 127 (by omega) (by omega)]; norm_num
  · rw [power_normal _ (by omega) (by omega)]
    refine congrArg (fun z : ℤ => (((2 : ℝ) ^ z : ℝ) : EReal)) ?_
    push_cast
    omega

theorem power_inverse (r : ℝ) (h : r < (2 : ℝ) ^ (126 : ℤ)) :
    power (if field r = 0 then 127 else 253 - field r) = (((2 : ℝ) ^ (-exponent r) : ℝ) : EReal) := by
  have hf := field_le r h
  rw [exponent_eq_field r h]
  split
  · rw [power_normal 127 (by omega) (by omega)]; norm_num
  · rw [power_normal _ (by omega) (by omega)]
    refine congrArg (fun z : ℤ => (((2 : ℝ) ^ z : ℝ) : EReal)) ?_
    omega

end Cert.RotateQuant
-- ==== Proof.Hadamard.lean ====
module

public import Idealize.ShloMosaic.Lib.Pointwise

/-! The rotation of one group.  Multiplying 1024 numbers by the Hadamard matrix of size 1024 is multiplying each quarter by the
one of size 256 and combining the four products with the signs of the one of size 4 (`combine_eq`); the greatest absolute value
of the result is the greatest over the quarters (`top_eq`), and it is bounded (`top_range`). -/

@[expose] public section

noncomputable section

namespace Cert.RotateQuant

open Idealize.ShloMosaic

/-- 1 less twice the parity of the number of ones of `w`. -/
def signWord (w : BitVec 32) : BitVec 32 := IntOp.subi 1#32 (IntOp.muli 2#32 (IntOp.andi (IntOp.ctpop w) 1#32))

/-- The entry of the Hadamard matrix in row `i` and column `k`. -/
def had (i k : ℕ) : EReal := (((signWord (IntOp.andi (BitVec.ofNat 32 i) (BitVec.ofNat 32 k))).toInt : ℝ) : EReal)

/-- The same as an integer. -/
def hadInt (n : ℕ) : ℤ := (signWord (BitVec.ofNat 32 n)).toInt

theorem had_eq (i k : ℕ) : had i k = ((hadInt (i &&& k) : ℝ) : EReal) := by
  unfold had hadInt IntOp.andi
  rw [BitVec.ofNat_and]

theorem hadInt_split : ∀ (u : Fin 4) (w : Fin 256), hadInt (256 * u.val + w.val) = hadInt u.val * hadInt w.val := by
  decide +kernel

theorem hadInt_small : hadInt 0 = 1 ∧ hadInt 1 = -1 ∧ hadInt 2 = -1 ∧ hadInt 3 = 1 := by decide +kernel

theorem hadInt_abs : ∀ n : Fin 1024, |hadInt n.val| = 1 := by decide +kernel

theorem and_split (b b' i k : ℕ) (hi : i < 256) (hk : k < 256) :
    (256 * b + i) &&& (256 * b' + k) = 256 * (b &&& b') + (i &&& k) := by
  have hik : i &&& k < 2 ^ 8 := lt_of_le_of_lt Nat.and_le_left hi
  refine Nat.eq_of_testBit_eq fun j => ?_
  rw [Nat.testBit_and, show 256 = 2 ^ 8 from rfl, Nat.testBit_two_pow_mul_add _ hi, Nat.testBit_two_pow_mul_add _ hk, Nat.testBit_two_pow_mul_add _ hik]
  split <;> rw [Nat.testBit_and]

theorem hadInt_and (b b' i k : ℕ) (hb : b < 4) (hi : i < 256) (hk : k < 256) :
    hadInt ((256 * b + i) &&& (256 * b' + k)) = hadInt (b &&& b') * hadInt (i &&& k) := by
  rw [and_split b b' i k hi hk]
  exact hadInt_split ⟨b &&& b', lt_of_le_of_lt Nat.and_le_left hb⟩ ⟨i &&& k, lt_of_le_of_lt Nat.and_le_left hi⟩

/-- One output of the rotation of a group. -/
def rotate (u : Fin 1024 → EReal) (k : ℕ) : EReal := (∑ i : Fin 1024, u i * had i.val k) * Ideal.ofBits .f32 0x3D000000#32

/-- One output of the rotation of one quarter. -/
def quarter (u : Fin 1024 → EReal) (b : Fin 4) (k : ℕ) : EReal := ∑ i : Fin 256, u ⟨256 * b.val + i.val, by have := b.isLt; have := i.isLt; omega⟩ * had i.val k

/-- The quarters put together. -/
def combine (u : Fin 1024 → EReal) (b : Fin 4) (k : ℕ) : EReal :=
  (match b with
    | 0 => (quarter u 0 k + quarter u 1 k) + (quarter u 2 k + quarter u 3 k)
    | 1 => (quarter u 0 k - quarter u 1 k) + (quarter u 2 k - quarter u 3 k)
    | 2 => (quarter u 0 k + quarter u 1 k) - (quarter u 2 k + quarter u 3 k)
    | 3 => (quarter u 0 k - quarter u 1 k) - (quarter u 2 k - quarter u 3 k)) * Ideal.ofBits .f32 0x3D000000#32

theorem coe_sum {n : ℕ} (f : Fin n → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm

/-- A quarter of real numbers rotates to a real number. -/
theorem quarter_coe (r : Fin 1024 → ℝ) (b : Fin 4) (k : ℕ) :
    quarter (fun i => ((r i : ℝ) : EReal)) b k
      = ((∑ i : Fin 256, r ⟨256 * b.val + i.val, by have := b.isLt; have := i.isLt; omega⟩ * (hadInt (i.val &&& k) : ℝ) : ℝ) : EReal) := by
  unfold quarter
  rw [← coe_sum]
  refine Finset.sum_congr rfl fun i _ => ?_
  rw [had_eq, EReal.coe_mul]

theorem sum_coe (r : Fin 1024 → ℝ) (k : ℕ) :
    ∑ i : Fin 1024, ((r i : ℝ) : EReal) * had i.val k = ((∑ i : Fin 1024, r i * (hadInt (i.val &&& k) : ℝ) : ℝ) : EReal) := by
  rw [← coe_sum]
  refine Finset.sum_congr rfl fun i _ => ?_
  rw [had_eq, EReal.coe_mul]

theorem sum_quarters (f : Fin 1024 → ℝ) :
    ∑ i, f i = ∑ b : Fin 4, ∑ i : Fin 256, f ⟨256 * b.val + i.val, by have := b.isLt; have := i.isLt; omega⟩ := by
  rw [← Fintype.sum_prod_type' (f := fun (b : Fin 4) (i : Fin 256) => f ⟨256 * b.val + i.val, by have := b.isLt; have := i.isLt; omega⟩)]
  refine (Fintype.sum_equiv (finProdFinEquiv (m := 4) (n := 256)) _ f fun p => congrArg f (Fin.ext ?_)).symm
  show 256 * p.1.val + p.2.val = p.2.val + 256 * p.1.val
  omega

/-- Of real numbers the quarters put together are the rotation of the group. -/
theorem combine_eq (r : Fin 1024 → ℝ) (b : Fin 4) (k : Fin 256) :
    combine (fun i => ((r i : ℝ) : EReal)) b k.val = rotate (fun i => ((r i : ℝ) : EReal)) (256 * b.val + k.val) := by
  obtain ⟨s0, s1, s2, s3⟩ := hadInt_small
  unfold combine rotate
  refine congrArg (· * _) ?_
  rw [sum_coe, sum_quarters]
  have hs : ∀ c : Fin 4, (∑ i : Fin 256, r ⟨256 * c.val + i.val, by have := c.isLt; have := i.isLt; omega⟩
        * (hadInt ((256 * c.val + i.val) &&& (256 * b.val + k.val)) : ℝ))
      = (hadInt (c.val &&& b.val) : ℝ) * ∑ i : Fin 256, r ⟨256 * c.val + i.val, by have := c.isLt; have := i.isLt; omega⟩ * (hadInt (i.val &&& k.val) : ℝ) := by
    intro c
    rw [Finset.mul_sum]
    refine Finset.sum_congr rfl fun i _ => ?_
    rw [hadInt_and _ _ _ _ c.isLt i.isLt k.isLt]
    push_cast
    ring
  simp only [quarter_coe]
  rw [Fin.sum_univ_four]
  simp only [hs]
  match b with
  | 0 | 1 | 2 | 3 =>
    simp [s0, s1, s2, s3, ← EReal.coe_add, ← EReal.coe_sub]
    try ring

/-- The greatest absolute value of the rotation of a group. -/
def top (u : Fin 1024 → EReal) : EReal :=
  (Finset.univ : Finset (Fin 1024)).fold max (Ideal.ofBits .f32 0xFF800000#32) fun k => max (rotate u k.val) (-rotate u k.val)

/-- The greatest absolute value, taken over the quarters first. -/
def topQuarters (u : Fin 1024 → EReal) : EReal :=
  (Finset.univ : Finset (Fin 256)).fold max (Ideal.ofBits .f32 0xFF800000#32) fun k =>
    max (max (max (combine u 0 k.val) (-combine u 0 k.val)) (max (combine u 1 k.val) (-combine u 1 k.val)))
      (max (max (combine u 2 k.val) (-combine u 2 k.val)) (max (combine u 3 k.val) (-combine u 3 k.val)))

theorem top_eq (r : Fin 1024 → ℝ) : topQuarters (fun i => ((r i : ℝ) : EReal)) = top (fun i => ((r i : ℝ) : EReal)) := by
  refine eq_of_forall_ge_iff fun c => ?_
  unfold topQuarters top
  rw [Finset.fold_max_le, Finset.fold_max_le]
  refine and_congr_right fun _ => ?_
  simp only [combine_eq, max_le_iff, Finset.mem_univ, true_implies]
  constructor
  · intro h k
    have hk := k.isLt
    have hq := h ⟨k.val % 256, Nat.mod_lt _ (by decide)⟩
    have hb : k.val / 256 = 0 ∨ k.val / 256 = 1 ∨ k.val / 256 = 2 ∨ k.val / 256 = 3 := by omega
    have he : k.val = 256 * (k.val / 256) + k.val % 256 := by omega
    rw [he]
    rcases hb with e | e | e | e
    all_goals rw [e]
    · exact hq.1.1
    · exact hq.1.2
    · exact hq.2.1
    · exact hq.2.2
  · intro h k
    have hk := k.isLt
    exact ⟨⟨h ⟨256 * 0 + k.val, by omega⟩, h ⟨256 * 1 + k.val, by omega⟩⟩, h ⟨256 * 2 + k.val, by omega⟩, h ⟨256 * 3 + k.val, by omega⟩⟩

theorem inv32 : Ideal.ofBits .f32 0x3D000000#32 = ((1 / 32 : ℝ) : EReal) := by
  simp [Ideal.ofBits, Ideal.ieee, -EReal.coe_mul]; norm_num

theorem bottom : Ideal.ofBits .f32 0xFF800000#32 = ⊥ := by simp [Ideal.ofBits, Ideal.ieee]

theorem hadInt_abs_and (i : Fin 1024) (k : ℕ) : |((hadInt (i.val &&& k) : ℤ) : ℝ)| = 1 := by
  have h := hadInt_abs ⟨i.val &&& k, lt_of_le_of_lt Nat.and_le_left i.isLt⟩
  rw [← Int.cast_abs, h, Int.cast_one]

theorem rotate_coe (r : Fin 1024 → ℝ) (k : ℕ) : rotate (fun i => ((r i : ℝ) : EReal)) k
    = (((∑ i : Fin 1024, r i * (hadInt (i.val &&& k) : ℝ)) * (1 / 32) : ℝ) : EReal) := by
  unfold rotate
  rw [sum_coe, inv32, ← EReal.coe_mul]

/-- Of 1024 real numbers up to `2 ^ 128` an output of the rotation is a real number up to `2 ^ 133`. -/
theorem rotate_real (r : Fin 1024 → ℝ) (hr : ∀ i, |r i| ≤ 2 ^ 128) (k : ℕ) :
    ∃ v : ℝ, rotate (fun i => ((r i : ℝ) : EReal)) k = (v : EReal) ∧ |v| ≤ 2 ^ 133 := by
  refine ⟨(∑ i : Fin 1024, r i * (hadInt (i.val &&& k) : ℝ)) * (1 / 32), rotate_coe r k, ?_⟩
  · have h : |∑ i : Fin 1024, r i * (hadInt (i.val &&& k) : ℝ)| ≤ ∑ _i : Fin 1024, (2 : ℝ) ^ 128 := by
      refine (Finset.abs_sum_le_sum_abs _ _).trans (Finset.sum_le_sum fun i _ => ?_)
      rw [abs_mul, hadInt_abs_and, mul_one]
      exact hr i
    rw [Finset.sum_const, Finset.card_univ, Fintype.card_fin, nsmul_eq_mul] at h
    rw [abs_mul, abs_of_pos (by norm_num : (0 : ℝ) < 1 / 32)]
    refine (mul_le_mul_of_nonneg_right h (by norm_num)).trans ?_
    norm_num

/-- The greatest absolute value is a real number from 0 to `2 ^ 133`. -/
theorem top_range (r : Fin 1024 → ℝ) (hr : ∀ i, |r i| ≤ 2 ^ 128) :
    ∃ a : ℝ, top (fun i => ((r i : ℝ) : EReal)) = (a : EReal) ∧ 0 ≤ a ∧ a ≤ 2 ^ 133 := by
  have hle : top (fun i => ((r i : ℝ) : EReal)) ≤ ((2 ^ 133 : ℝ) : EReal) := by
    unfold top
    rw [Finset.fold_max_le, bottom]
    refine ⟨bot_le, fun k _ => ?_⟩
    obtain ⟨v, hv, hb⟩ := rotate_real r hr k.val
    rw [hv, ← EReal.coe_neg]
    exact max_le (EReal.coe_le_coe_iff.2 ((le_abs_self v).trans hb)) (EReal.coe_le_coe_iff.2 ((neg_le_abs v).trans hb))
  have hge : ((0 : ℝ) : EReal) ≤ top (fun i => ((r i : ℝ) : EReal)) := by
    unfold top
    rw [Finset.le_fold_max]
    refine Or.inr ⟨0, Finset.mem_univ _, ?_⟩
    obtain ⟨v, hv, -⟩ := rotate_real r hr (0 : Fin 1024).val
    rw [hv, ← EReal.coe_neg, le_max_iff, EReal.coe_le_coe_iff, EReal.coe_le_coe_iff]
    rcases le_total 0 v with h | h
    · exact Or.inl h
    · exact Or.inr (by linarith)
  generalize top (fun i => ((r i : ℝ) : EReal)) = a at hle hge
  induction a using EReal.rec with
  | bot => exact absurd hge (by simp)
  | top => exact absurd (top_le_iff.1 hle) (EReal.coe_ne_top _)
  | coe a => exact ⟨a, rfl, EReal.coe_le_coe_iff.1 hge, EReal.coe_le_coe_iff.1 hle⟩

end Cert.RotateQuant
-- ==== Proof.Inverse.lean ====
module

public import proofs.«01_k».proof.Proof.Hadamard

/-! The rotation turned back.  The rows of the Hadamard matrix are orthogonal (`orthogonal_group`), so a number of the group is
no greater than 32 times some output of its rotation (`exists_large`), and the greatest absolute value of the rotation is not
small unless it is 0 (`top_large`). -/

@[expose] public section

noncomputable section

namespace Cert.RotateQuant

open Idealize.ShloMosaic

/-- The rows of the Hadamard matrix of size `n` are orthogonal. -/
def Orthogonal (n : ℕ) : Prop :=
  ∀ i j : Fin n, ∑ k : Fin n, hadInt (i.val &&& k.val) * hadInt (j.val &&& k.val) = if i = j then (n : ℤ) else 0

theorem orthogonal_four : Orthogonal 4 := by
  unfold Orthogonal
  decide +kernel

theorem orthogonal_sixteen : Orthogonal 16 := by
  unfold Orthogonal
  decide +kernel

theorem hadInt_split_sixteen : ∀ (u w : Fin 16), hadInt (2 ^ 4 * u.val + w.val) = hadInt u.val * hadInt w.val := by
  decide +kernel

/-- The matrix of size `m * 2 ^ s` is the product of those of sizes `m` and `2 ^ s`, so its rows are orthogonal if theirs are. -/
theorem Orthogonal.mul {m s : ℕ} (hm : Orthogonal m) (hs : Orthogonal (2 ^ s))
    (h : ∀ (u : Fin m) (w : Fin (2 ^ s)), hadInt (2 ^ s * u.val + w.val) = hadInt u.val * hadInt w.val) : Orthogonal (m * 2 ^ s) := by
  have hand : ∀ (b b' : Fin m) (i k : Fin (2 ^ s)),
      hadInt ((2 ^ s * b.val + i.val) &&& (2 ^ s * b'.val + k.val)) = hadInt (b.val &&& b'.val) * hadInt (i.val &&& k.val) := by
    intro b b' i k
    have hik : i.val &&& k.val < 2 ^ s := lt_of_le_of_lt Nat.and_le_left i.isLt
    rw [show (2 ^ s * b.val + i.val) &&& (2 ^ s * b'.val + k.val) = 2 ^ s * (b.val &&& b'.val) + (i.val &&& k.val) from by
      refine Nat.eq_of_testBit_eq fun j => ?_
      rw [Nat.testBit_and, Nat.testBit_two_pow_mul_add _ i.isLt, Nat.testBit_two_pow_mul_add _ k.isLt, Nat.testBit_two_pow_mul_add _ hik]
      split <;> rw [Nat.testBit_and]]
    exact h ⟨b.val &&& b'.val, lt_of_le_of_lt Nat.and_le_left b.isLt⟩ ⟨i.val &&& k.val, hik⟩
  intro i j
  obtain ⟨⟨b, i⟩, rfl⟩ := finProdFinEquiv.surjective i
  obtain ⟨⟨c, j⟩, rfl⟩ := finProdFinEquiv.surjective j
  rw [← finProdFinEquiv.sum_comp, Fintype.sum_prod_type]
  have hv : ∀ (b : Fin m) (i : Fin (2 ^ s)), (finProdFinEquiv (b, i)).val = 2 ^ s * b.val + i.val := by
    intro b i
    show i.val + 2 ^ s * b.val = _
    omega
  simp only [hv, hand]
  have e : ∀ (k : Fin m) (l : Fin (2 ^ s)), hadInt (b.val &&& k.val) * hadInt (i.val &&& l.val) * (hadInt (c.val &&& k.val) * hadInt (j.val &&& l.val))
      = (hadInt (b.val &&& k.val) * hadInt (c.val &&& k.val)) * (hadInt (i.val &&& l.val) * hadInt (j.val &&& l.val)) := by
    intro k l; ring
  simp only [e, ← Finset.mul_sum, ← Finset.sum_mul]
  rw [hm b c, hs i j]
  simp only [finProdFinEquiv.injective.eq_iff, Prod.mk.injEq]
  by_cases h1 : b = c <;> by_cases h2 : i = j <;> simp [h1, h2]

/-- The rows of the matrix of a group are orthogonal. -/
theorem orthogonal_group : Orthogonal 1024 :=
  orthogonal_four.mul (s := 8) (orthogonal_sixteen.mul (s := 4) orthogonal_sixteen hadInt_split_sixteen) hadInt_split

/-- Turning the rotation back. -/
theorem turn_back (r : Fin 1024 → ℝ) (i : Fin 1024) :
    ∑ k : Fin 1024, (∑ j : Fin 1024, r j * (hadInt (j.val &&& k.val) : ℝ)) * (hadInt (i.val &&& k.val) : ℝ) = 1024 * r i := by
  simp only [Finset.sum_mul]
  rw [Finset.sum_comm]
  have h : ∀ j : Fin 1024, ∑ k : Fin 1024, r j * (hadInt (j.val &&& k.val) : ℝ) * (hadInt (i.val &&& k.val) : ℝ)
      = if j = i then 1024 * r i else 0 := by
    intro j
    have e := congrArg (fun z : ℤ => (z : ℝ)) (orthogonal_group j i)
    push_cast at e
    simp only [mul_assoc, ← Finset.mul_sum]
    rw [e]
    by_cases hj : j = i
    · rw [if_pos hj, if_pos hj, hj]; ring
    · rw [if_neg hj, if_neg hj, mul_zero]
  simp only [h]
  rw [Finset.sum_ite_eq' Finset.univ i, if_pos (Finset.mem_univ _)]

/-- Some output of the rotation, times 32, is at least as great as a number of the group. -/
theorem exists_large (r : Fin 1024 → ℝ) (i : Fin 1024) :
    ∃ k : Fin 1024, |r i| ≤ |∑ j : Fin 1024, r j * (hadInt (j.val &&& k.val) : ℝ)| := by
  by_contra hn
  push Not at hn
  have h : |∑ k : Fin 1024, (∑ j : Fin 1024, r j * (hadInt (j.val &&& k.val) : ℝ)) * (hadInt (i.val &&& k.val) : ℝ)| < ∑ _k : Fin 1024, |r i| := by
    refine (Finset.abs_sum_le_sum_abs _ _).trans_lt (Finset.sum_lt_sum_of_nonempty ⟨0, Finset.mem_univ _⟩ fun k _ => ?_)
    rw [abs_mul, hadInt_abs_and, mul_one]
    exact hn k
  rw [turn_back, Finset.sum_const, Finset.card_univ, Fintype.card_fin, nsmul_eq_mul, abs_mul] at h
  norm_num at h

/-- Of numbers that are 0 or at least `2 ^ -112` the greatest absolute value of the rotation is 0 or at least `2 ^ -117`. -/
theorem top_large (r : Fin 1024 → ℝ) (hr : ∀ i, r i = 0 ∨ (2 : ℝ) ^ (-112 : ℤ) ≤ |r i|) (a : ℝ)
    (ha : top (fun i => ((r i : ℝ) : EReal)) = (a : EReal)) (h0 : 0 ≤ a) : a = 0 ∨ (2 : ℝ) ^ (-117 : ℤ) ≤ a := by
  by_cases hz : ∀ i, r i = 0
  · refine Or.inl (le_antisymm ?_ h0)
    rw [← EReal.coe_le_coe_iff, ← ha]
    unfold top
    rw [Finset.fold_max_le, bottom]
    refine ⟨bot_le, fun k _ => ?_⟩
    rw [rotate_coe]
    simp [hz]
  · obtain ⟨i, hi⟩ := not_forall.1 hz
    obtain ⟨k, hk⟩ := exists_large r i
    refine Or.inr ?_
    have hl := ((hr i).resolve_left hi).trans hk
    have ht : ((|(∑ j : Fin 1024, r j * (hadInt (j.val &&& k.val) : ℝ)) * (1 / 32)| : ℝ) : EReal) ≤ top (fun i => ((r i : ℝ) : EReal)) := by
      unfold top
      rw [Finset.le_fold_max]
      refine Or.inr ⟨k, Finset.mem_univ _, ?_⟩
      rw [rotate_coe, ← EReal.coe_neg, le_max_iff, EReal.coe_le_coe_iff, EReal.coe_le_coe_iff]
      exact le_max_iff.1 le_rfl
    rw [ha, EReal.coe_le_coe_iff, abs_mul, abs_of_pos (by norm_num : (0 : ℝ) < 1 / 32)] at ht
    refine le_trans ?_ ht
    refine le_trans ?_ (mul_le_mul_of_nonneg_right hl (by norm_num))
    norm_num

end Cert.RotateQuant
-- ==== Proof.Scale.lean ====
module

public import proofs.«01_k».proof.Proof.Exponent
public import proofs.«01_k».proof.Proof.Inverse
public import Idealize.ShloMosaic.Lib.IndicatorCount

/-! What one group becomes, as the reference states it (`code`, `scale`, `deq`), and the two ways to the power of two: the
logarithm and the exponent of the reference, the count of powers of two and the shifted words of the kernel. -/

@[expose] public section

noncomputable section

namespace Cert.RotateQuant

open Idealize.ShloMosaic

/-- The exponent of the scale of a group of greatest absolute value `a`: 0 for 0, else one more than the floor of the logarithm of
`a` over 448. -/
def expOf (a : EReal) : EReal :=
  if a = 0 then 0
  else Ideal.liftRound Int.floor (Ideal.div (Ideal.log (a * Ideal.ofBits .f32 0x3B124925#32)) (Ideal.log (Ideal.ofBits .f32 0x40000000#32))) + 1

/-- The scale of a group. -/
def scale (u : Fin 1024 → EReal) : EReal := Ideal.exp2 (expOf (top u))

/-- The code of an element of a group. -/
def code (u : Fin 1024 → EReal) (k : ℕ) : EReal :=
  min (Ideal.ofBits .f32 0x43E00000#32) (max (Ideal.ofBits .f32 0xC3E00000#32) (rotate u k * Ideal.exp2 (0 - expOf (top u))))

/-- The dequantised value of an element of a group. -/
def deq (u : Fin 1024 → EReal) (k : ℕ) : EReal := code u k * scale u

theorem inv448 : Ideal.ofBits .f32 0x3B124925#32 = ((9586981 * 2 ^ (-32 : ℤ) : ℝ) : EReal) := by
  simp [Ideal.ofBits, Ideal.ieee, -EReal.coe_mul]

theorem two : Ideal.ofBits .f32 0x40000000#32 = ((2 : ℝ) : EReal) := by
  simp [Ideal.ofBits, Ideal.ieee, -EReal.coe_mul]; norm_num

/-- A real greatest absolute value: not negative, not too large, and 0 or not too small. -/
def Fits (a : ℝ) : Prop := 0 ≤ a ∧ a ≤ 2 ^ 133 ∧ (a = 0 ∨ (2 : ℝ) ^ (-117 : ℤ) ≤ a)

/-- It over 448. -/
def over (a : ℝ) : ℝ := a * (9586981 * 2 ^ (-32 : ℤ))

theorem over_coe (a : ℝ) : (a : EReal) * Ideal.ofBits .f32 0x3B124925#32 = ((over a : ℝ) : EReal) := by
  rw [inv448, ← EReal.coe_mul]
  rfl

theorem Fits.over_nonneg {a : ℝ} (h : Fits a) : 0 ≤ over a := mul_nonneg h.1 (by positivity)

theorem Fits.over_lt {a : ℝ} (h : Fits a) : over a < (2 : ℝ) ^ (126 : ℤ) := by
  refine lt_of_le_of_lt (mul_le_mul_of_nonneg_right h.2.1 (by positivity)) ?_
  norm_num

/-- It over 448 is below the least normal number only if it is 0. -/
theorem Fits.over_lt_iff {a : ℝ} (h : Fits a) : over a < (2 : ℝ) ^ (-126 : ℤ) ↔ a = 0 := by
  constructor
  · intro hlt
    refine h.2.2.resolve_right fun hl => absurd hlt (not_lt.2 ?_)
    refine le_trans ?_ (mul_le_mul_of_nonneg_right hl (by positivity))
    norm_num
  · rintro rfl
    unfold over
    rw [zero_mul]
    positivity

/-- The exponent by the logarithm. -/
theorem expOf_eq {a : ℝ} (h : Fits a) : expOf (a : EReal) = ((exponent (over a) : ℝ) : EReal) := by
  unfold expOf exponent
  rw [two, over_coe]
  simp only [EReal.coe_eq_zero, h.over_lt_iff]
  split
  · simp
  · rename_i ha
    have hr := h.over_lt_iff.not.2 ha
    generalize over a = r at hr
    have h0 : ¬r ≤ 0 := not_le.2 (lt_of_lt_of_le (by positivity) (not_lt.1 hr))
    have h2 : ¬(2 : ℝ) ≤ 0 := by norm_num
    show Ideal.liftRound Int.floor (Ideal.div (if r ≤ 0 then ⊥ else (Real.log r : EReal)) (if (2 : ℝ) ≤ 0 then ⊥ else (Real.log 2 : EReal))) + 1 = _
    rw [if_neg h0, if_neg h2, show Ideal.div (Real.log r : EReal) (Real.log 2 : EReal) = ((Real.log r / Real.log 2 : ℝ) : EReal) from by
      rw [Ideal.div_coe (Real.log_pos (by norm_num)).ne', ← EReal.coe_mul, mul_one_div]]
    rw [Ideal.liftRound_coe]
    push_cast
    rfl

theorem exp2_expOf {a : ℝ} (h : Fits a) : Ideal.exp2 (expOf (a : EReal)) = (((2 : ℝ) ^ exponent (over a) : ℝ) : EReal) := by
  rw [expOf_eq h]
  exact congrArg Real.toEReal (Real.rpow_intCast 2 (exponent (over a)))

theorem exp2_neg_expOf {a : ℝ} (h : Fits a) : Ideal.exp2 (0 - expOf (a : EReal)) = (((2 : ℝ) ^ (-exponent (over a)) : ℝ) : EReal) := by
  rw [expOf_eq h, show (0 : EReal) - ((exponent (over a) : ℝ) : EReal) = (((-exponent (over a) : ℤ) : ℝ) : EReal) from by
    rw [← EReal.coe_zero, ← EReal.coe_sub]; push_cast; rw [zero_sub]]
  exact congrArg Real.toEReal (Real.rpow_intCast 2 (-exponent (over a)))

/-- The number of words of an exponent field alone that denote more than `t`. -/
def countWord (t : EReal) : BitVec 32 :=
  Finset.univ.fold IntOp.addi 0#32 fun k : Fin 256 => BitVec.setWidth 32 (BitVec.ofBool (decide (t < Ideal.ofBits .f32 (IntOp.shli .vector (BitVec.ofNat 32 k.val) 23#32))))

/-- The exponent of the scale as the kernel computes it. -/
def expWord (t : EReal) : BitVec 32 :=
  Scalar.select (IntOp.cmpi .eq (IntOp.subi 255#32 (countWord t)) 0#32) 0#32 (IntOp.subi (IntOp.subi 255#32 (countWord t)) 126#32)

/-- The word of the scale. -/
def scaleWord (t : EReal) : EReal := Ideal.ofBits .f32 (IntOp.shli .vector (IntOp.addi (expWord t) 127#32) 23#32)

/-- The word of the inverse of the scale. -/
def inverseWord (t : EReal) : EReal := Ideal.ofBits .f32 (IntOp.shli .vector (IntOp.subi 127#32 (expWord t)) 23#32)

theorem shli_power (w : BitVec 32) : IntOp.shli .vector w 23#32 = w <<< 23 := by
  unfold IntOp.shli
  rw [if_pos (by decide)]
  rfl

theorem countWord_eq (r : ℝ) (h0 : 0 ≤ r) (h : r < (2 : ℝ) ^ (126 : ℤ)) : countWord (r : EReal) = BitVec.ofNat 32 (255 - field r) := by
  unfold countWord
  rw [IndicatorCount.fold_addi_setWidth_eq_card, ← card_above r h0 h]
  refine congrArg (fun s : Finset (Fin 256) => BitVec.ofNat 32 s.card) (Finset.filter_congr fun k _ => ?_)
  rw [shli_power]
  show BitVec.ofBool (decide ((r : EReal) < power k.val)) = 1#1 ↔ (r : EReal) < power k.val
  by_cases hk : (r : EReal) < power k.val <;> simp [hk]

theorem expWord_eq (r : ℝ) (h0 : 0 ≤ r) (h : r < (2 : ℝ) ^ (126 : ℤ)) :
    expWord (r : EReal) = if (255#32 - BitVec.ofNat 32 (255 - field r)) = 0#32 then 0#32 else (255#32 - BitVec.ofNat 32 (255 - field r)) - 126#32 := by
  unfold expWord
  rw [countWord_eq r h0 h]
  show (if BitVec.ofBool ((255#32 - BitVec.ofNat 32 (255 - field r)) == 0#32) = 1#1 then 0#32 else (255#32 - BitVec.ofNat 32 (255 - field r)) - 126#32) = _
  generalize 255#32 - BitVec.ofNat 32 (255 - field r) = w
  by_cases hk : w = 0#32
  · rw [if_pos hk, if_pos (by rw [hk]; rfl)]
  · rw [if_neg hk, if_neg (by rw [beq_eq_false_iff_ne.2 hk]; decide)]

/-- The word of the scale denotes the scale. -/
theorem scaleWord_eq {a : ℝ} (h : Fits a) : scaleWord ((over a : ℝ) : EReal) = Ideal.exp2 (expOf (a : EReal)) := by
  have hw := (scale_words ⟨field (over a), by have := field_le _ h.over_lt; omega⟩).1
  unfold scaleWord
  rw [expWord_eq _ h.over_nonneg h.over_lt, exp2_expOf h, ← power_scale _ h.over_lt, shli_power]
  exact congrArg (fun w : BitVec 32 => Ideal.ofBits .f32 (w <<< 23)) hw

/-- The word of the inverse denotes the inverse. -/
theorem inverseWord_eq {a : ℝ} (h : Fits a) : inverseWord ((over a : ℝ) : EReal) = Ideal.exp2 (0 - expOf (a : EReal)) := by
  have hw := (scale_words ⟨field (over a), by have := field_le _ h.over_lt; omega⟩).2
  unfold inverseWord
  rw [expWord_eq _ h.over_nonneg h.over_lt, exp2_neg_expOf h, ← power_inverse _ h.over_lt, shli_power]
  exact congrArg (fun w : BitVec 32 => Ideal.ofBits .f32 (w <<< 23)) hw

/-- The threshold as the kernel takes it, over the quarters first. -/
def thrQuarters (u : Fin 1024 → EReal) : EReal := topQuarters u * Ideal.ofBits .f32 0x3B124925#32

/-- The scale of a group as the kernel computes it. -/
def kScale (u : Fin 1024 → EReal) : EReal := scaleWord (thrQuarters u)

/-- A code as the kernel computes it. -/
def kCode (u : Fin 1024 → EReal) (b : Fin 4) (k : ℕ) : EReal :=
  min (Ideal.ofBits .f32 0x43E00000#32) (max (Ideal.ofBits .f32 0xC3E00000#32) (combine u b k * inverseWord (thrQuarters u)))

/-- A dequantised value as the kernel computes it. -/
def kDeq (u : Fin 1024 → EReal) (b : Fin 4) (k : ℕ) : EReal := kCode u b k * kScale u

/-- Every number of the group is real, up to `2 ^ 128`, and 0 or at least `2 ^ -112`. -/
def Tame (u : Fin 1024 → EReal) : Prop :=
  ∃ r : Fin 1024 → ℝ, u = (fun i => ((r i : ℝ) : EReal)) ∧ (∀ i, |r i| ≤ 2 ^ 128) ∧ ∀ i, r i = 0 ∨ (2 : ℝ) ^ (-112 : ℤ) ≤ |r i|

/-- The greatest absolute value of the rotation of such a group fits. -/
theorem top_fits (r : Fin 1024 → ℝ) (hr : ∀ i, |r i| ≤ 2 ^ 128) (hl : ∀ i, r i = 0 ∨ (2 : ℝ) ^ (-112 : ℤ) ≤ |r i|) :
    ∃ a : ℝ, top (fun i => ((r i : ℝ) : EReal)) = (a : EReal) ∧ Fits a := by
  obtain ⟨a, ha, h0, h1⟩ := top_range r hr
  exact ⟨a, ha, h0, h1, top_large r hl a ha h0⟩

theorem kScale_eq (u : Fin 1024 → EReal) (hu : Tame u) : kScale u = scale u := by
  obtain ⟨r, rfl, hr, hl⟩ := hu
  obtain ⟨a, ha, h⟩ := top_fits r hr hl
  unfold kScale scale thrQuarters
  rw [top_eq, ha, over_coe]
  exact scaleWord_eq h

theorem kCode_eq (u : Fin 1024 → EReal) (hu : Tame u) (b : Fin 4) (k : Fin 256) : kCode u b k.val = code u (256 * b.val + k.val) := by
  obtain ⟨r, rfl, hr, hl⟩ := hu
  obtain ⟨a, ha, h⟩ := top_fits r hr hl
  unfold kCode code thrQuarters
  rw [top_eq, combine_eq, ha, over_coe, inverseWord_eq h]

theorem kDeq_eq (u : Fin 1024 → EReal) (hu : Tame u) (b : Fin 4) (k : Fin 256) : kDeq u b k.val = deq u (256 * b.val + k.val) := by
  unfold kDeq deq
  rw [kScale_eq u hu, kCode_eq u hu b k]

/-- The signed inputs of group `g` of row `a`. -/
def group (x : Fin 3456 → Fin 6144 → EReal) (s : Fin 6144 → BitVec 8) (a : Fin 3456) (g : Fin 6) : Fin 1024 → EReal :=
  fun i => x a ⟨g.val * 1024 + i.val, by have := g.isLt; have := i.isLt; omega⟩ * (((s ⟨g.val * 1024 + i.val, by have := g.isLt; have := i.isLt; omega⟩).toInt : ℝ) : EReal)

/-- The code of row `a` and column `b`. -/
def codes (x : Fin 3456 → Fin 6144 → EReal) (s : Fin 6144 → BitVec 8) (a : Fin 3456) (b : Fin 6144) : EReal :=
  code (group x s a ⟨b.val / 1024, by have := b.isLt; omega⟩) (b.val % 1024)

/-- The scale of row `a` and group `g`. -/
def scales (x : Fin 3456 → Fin 6144 → EReal) (s : Fin 6144 → BitVec 8) (a : Fin 3456) (g : Fin 6) : EReal := scale (group x s a g)

/-- The dequantised value of row `a` and column `b`. -/
def deqs (x : Fin 3456 → Fin 6144 → EReal) (s : Fin 6144 → BitVec 8) (a : Fin 3456) (b : Fin 6144) : EReal :=
  deq (group x s a ⟨b.val / 1024, by have := b.isLt; omega⟩) (b.val % 1024)

end Cert.RotateQuant
-- ==== Proof.Group.lean ====
module

public import proofs.«01_k».proof.Proof.Gen.QuantKernelIdeal.Skeleton
public import proofs.«01_k».proof.Proof.Scale

/-! One group of one block of rows, as the quantising kernel computes it from four blocks of 256 columns, their signs and the
matrix it keeps (`Group`), read at a row: the codes, the scale and the dequantised values of the row's 1024 signed inputs. -/

@[expose] public section

noncomputable section

namespace Cert.RotateQuant

open Cert.QuantKernelIdeal Cert.QuantKernelIdeal.Gen Idealize.ShloMosaic

theorem sitofp_f32 (w : BitVec 32) : (FloatOps.sitofp .f32 w : Ideal .f32) = ((w.toInt : ℝ) : EReal) := rfl

theorem sitofp_bf16 (w : BitVec 8) : (FloatOps.sitofp .bf16 w : Ideal .bf16) = ((w.toInt : ℝ) : EReal) := rfl

theorem absf_eq (v : Ideal .f32) : (FloatOps.absf v : Ideal .f32) = max v (-v) := rfl

/-- What a group is computed from: the matrix, the four blocks of columns and their signs. -/
structure Group where
  matrix : Vec Ideal S256x256 .bf16
  cols : Fin 4 → Vec Ideal S128x256 .bf16
  signs : Fin 4 → Vec Ideal S1x256 .i8

namespace Group

variable (G : Group)

/-- The product of a block with the matrix. -/
def part (b : Fin 4) : FVec Ideal S128x256 .f32 := k0_pay5 G.matrix (G.cols b) (G.signs b)

/-- The rotated values of block `b`. -/
def rotated (b : Fin 4) : FVec Ideal S128x256 .f32 :=
  match b with
  | 0 => k0_pay13 (G.part 2) (G.part 3) (addf (G.part 0) (G.part 1))
  | 1 => k0_pay14 (G.part 2) (G.part 3) (subf (G.part 0) (G.part 1))
  | 2 => k0_pay15 (G.part 2) (G.part 3) (addf (G.part 0) (G.part 1))
  | 3 => k0_pay16 (G.part 2) (G.part 3) (subf (G.part 0) (G.part 1))

/-- The exponents of the scales. -/
def exponent : IVec S128x1 32 := k0_pay17 (G.part 2) (G.part 3) (addf (G.part 0) (G.part 1)) (subf (G.part 0) (G.part 1))

/-- The words of the scales. -/
def words : IVec S128x1 32 := k0_pay18 (G.part 2) (G.part 3) (addf (G.part 0) (G.part 1)) (subf (G.part 0) (G.part 1))

/-- The scales. -/
def scales : FVec Ideal S128x1 .f32 := k0_pay19 G.words

/-- The codes of block `b`. -/
def codes (b : Fin 4) : FVec Ideal S128x256 .fp8e4m3 := k0_pay22 (G.rotated b) G.exponent

/-- The dequantised values of block `b`. -/
def deqs (b : Fin 4) : FVec Ideal S128x256 .bf16 := k0_pay23 (G.rotated b) G.exponent G.words

/-- The matrix is the Hadamard matrix, and row `a` of the blocks times the signs is `u`. -/
structure Row (a : Fin 128) (u : Fin 1024 → EReal) : Prop where
  matrix : G.matrix = (k0_pay4 : FVec Ideal S256x256 .bf16)
  cols : ∀ (b : Fin 4) (i : Fin 256), G.cols b (ix2 a i) * (((G.signs b (ix2 0 i)).toInt : ℝ) : EReal)
    = u ⟨256 * b.val + i.val, by have := b.isLt; have := i.isLt; omega⟩

end Group

/-- An entry of the matrix the kernel keeps. -/
theorem matrix_at (i k : Fin 256) : (k0_pay4 : FVec Ideal S256x256 .bf16) (ix2 i k) = had i.val k.val := by
  unfold k0_pay4
  pointwise
  simp only [sitofp_f32]
  unfold had signWord
  with_reducible rfl

/-- A product with a matrix, read at an index. -/
theorem part_at (h : Vec Ideal S256x256 .bf16) (x : Vec Ideal S128x256 .bf16) (s : Vec Ideal S1x256 .i8) (a : Fin 128) (k : Fin 256) :
    k0_pay5 h x s (ix2 a k) = ∑ i : Fin 256, x (ix2 a i) * (((s (ix2 0 i)).toInt : ℝ) : EReal) * h (ix2 i k) := by
  unfold k0_pay5
  pointwise
  simp only [sitofp_bf16]

namespace Group

variable (G : Group) (a : Fin 128) (u : Fin 1024 → EReal) (hG : G.Row a u)

include hG

theorem part_row (b : Fin 4) (k : Fin 256) : G.part b (ix2 a k) = quarter u b k.val := by
  unfold part quarter
  rw [part_at, hG.matrix]
  refine Finset.sum_congr rfl fun i _ => ?_
  rw [hG.cols, matrix_at]

end Group

theorem first_at (p q v : FVec Ideal S128x256 .f32) (a : Fin 128) (k : Fin 256) :
    k0_pay13 p q v (ix2 a k) = (v (ix2 a k) + (p (ix2 a k) + q (ix2 a k))) * Ideal.ofBits .f32 0x3D000000#32 := by
  unfold k0_pay13 k0_pay11
  pointwise

theorem second_at (p q v : FVec Ideal S128x256 .f32) (a : Fin 128) (k : Fin 256) :
    k0_pay14 p q v (ix2 a k) = (v (ix2 a k) + (p (ix2 a k) - q (ix2 a k))) * Ideal.ofBits .f32 0x3D000000#32 := by
  unfold k0_pay14 k0_pay12
  pointwise

theorem third_at (p q v : FVec Ideal S128x256 .f32) (a : Fin 128) (k : Fin 256) :
    k0_pay15 p q v (ix2 a k) = (v (ix2 a k) - (p (ix2 a k) + q (ix2 a k))) * Ideal.ofBits .f32 0x3D000000#32 := by
  unfold k0_pay15 k0_pay11
  pointwise

theorem fourth_at (p q v : FVec Ideal S128x256 .f32) (a : Fin 128) (k : Fin 256) :
    k0_pay16 p q v (ix2 a k) = (v (ix2 a k) - (p (ix2 a k) - q (ix2 a k))) * Ideal.ofBits .f32 0x3D000000#32 := by
  unfold k0_pay16 k0_pay12
  pointwise

theorem sum_at (p q : FVec Ideal S128x256 .f32) (a : Fin 128) (k : Fin 256) : addf p q (ix2 a k) = p (ix2 a k) + q (ix2 a k) := rfl

theorem difference_at (p q : FVec Ideal S128x256 .f32) (a : Fin 128) (k : Fin 256) : subf p q (ix2 a k) = p (ix2 a k) - q (ix2 a k) := rfl

namespace Group

variable (G : Group) (a : Fin 128) (u : Fin 1024 → EReal) (hG : G.Row a u)

include hG

theorem rotated_row (b : Fin 4) (k : Fin 256) : G.rotated b (ix2 a k) = combine u b k.val := by
  have p0 : G.part 0 (ix2 a k) = quarter u 0 k.val := G.part_row a u hG 0 k
  have p1 : G.part 1 (ix2 a k) = quarter u 1 k.val := G.part_row a u hG 1 k
  have p2 : G.part 2 (ix2 a k) = quarter u 2 k.val := G.part_row a u hG 2 k
  have p3 : G.part 3 (ix2 a k) = quarter u 3 k.val := G.part_row a u hG 3 k
  match b with
  | 0 => show k0_pay13 _ _ _ _ = _; rw [first_at, sum_at, p0, p1, p2, p3]; rfl
  | 1 => show k0_pay14 _ _ _ _ = _; rw [second_at, difference_at, p0, p1, p2, p3]; rfl
  | 2 => show k0_pay15 _ _ _ _ = _; rw [third_at, sum_at, p0, p1, p2, p3]; rfl
  | 3 => show k0_pay16 _ _ _ _ = _; rw [fourth_at, difference_at, p0, p1, p2, p3]; rfl

end Group

/-- The exponents, in terms of the four blocks of rotated values. -/
theorem exponent_at (p q v w : FVec Ideal S128x256 .f32) (a : Fin 128) :
    k0_pay17 p q v w (ix2 a 0) = expWord ((Finset.univ : Finset (Fin 256)).fold max (Ideal.ofBits .f32 0xFF800000#32) (fun k =>
        max (max (FloatOps.absf (k0_pay13 p q v (ix2 a k))) (FloatOps.absf (k0_pay14 p q w (ix2 a k))))
          (max (FloatOps.absf (k0_pay15 p q v (ix2 a k))) (FloatOps.absf (k0_pay16 p q w (ix2 a k))))) * Ideal.ofBits .f32 0x3B124925#32) := by
  unfold k0_pay17
  generalize k0_pay13 p q v = r0
  generalize k0_pay14 p q w = r1
  generalize k0_pay15 p q v = r2
  generalize k0_pay16 p q w = r3
  pointwise
  unfold expWord countWord
  with_reducible rfl

theorem words_at (p q v w : FVec Ideal S128x256 .f32) (a : Fin 128) :
    k0_pay18 p q v w (ix2 a 0) = IntOp.shli .vector (IntOp.addi (k0_pay17 p q v w (ix2 a 0)) 127#32) 23#32 := by
  unfold k0_pay18
  generalize k0_pay17 p q v w = e
  pointwise

theorem scales_at (w : IVec S128x1 32) (a : Fin 128) : (k0_pay19 w : FVec Ideal S128x1 .f32) (ix2 a 0) = Ideal.ofBits .f32 (w (ix2 a 0)) := by
  unfold k0_pay19
  pointwise

theorem codes_at (v : FVec Ideal S128x256 .f32) (e : IVec S128x1 32) (a : Fin 128) (k : Fin 256) :
    k0_pay22 v e (ix2 a k) = min (Ideal.ofBits .f32 0x43E00000#32) (max (Ideal.ofBits .f32 0xC3E00000#32)
      (v (ix2 a k) * Ideal.ofBits .f32 (IntOp.shli .vector (IntOp.subi 127#32 (e (ix2 a 0))) 23#32))) := by
  unfold k0_pay22 k0_pay20
  pointwise

theorem deqs_at (v : FVec Ideal S128x256 .f32) (e w : IVec S128x1 32) (a : Fin 128) (k : Fin 256) :
    k0_pay23 v e w (ix2 a k) = k0_pay22 v e (ix2 a k) * Ideal.ofBits .f32 (w (ix2 a 0)) := by
  unfold k0_pay23 k0_pay21 k0_pay19
  generalize k0_pay22 v e = d
  pointwise

namespace Group

variable (G : Group) (a : Fin 128) (u : Fin 1024 → EReal) (hG : G.Row a u)

include hG

theorem exponent_row : G.exponent (ix2 a 0) = expWord (thrQuarters u) := by
  unfold exponent thrQuarters topQuarters
  rw [exponent_at]
  refine congrArg (fun f => expWord (Finset.fold max _ f Finset.univ * _)) (funext fun k => ?_)
  have r0 : k0_pay13 (G.part 2) (G.part 3) (addf (G.part 0) (G.part 1)) (ix2 a k) = combine u 0 k.val := G.rotated_row a u hG 0 k
  have r1 : k0_pay14 (G.part 2) (G.part 3) (subf (G.part 0) (G.part 1)) (ix2 a k) = combine u 1 k.val := G.rotated_row a u hG 1 k
  have r2 : k0_pay15 (G.part 2) (G.part 3) (addf (G.part 0) (G.part 1)) (ix2 a k) = combine u 2 k.val := G.rotated_row a u hG 2 k
  have r3 : k0_pay16 (G.part 2) (G.part 3) (subf (G.part 0) (G.part 1)) (ix2 a k) = combine u 3 k.val := G.rotated_row a u hG 3 k
  rw [r0, r1, r2, r3]
  simp only [absf_eq]

theorem words_row : G.words (ix2 a 0) = IntOp.shli .vector (IntOp.addi (expWord (thrQuarters u)) 127#32) 23#32 := by
  rw [← G.exponent_row a u hG]
  exact words_at _ _ _ _ a

/-- The scale of the row. -/
theorem scales_row : G.scales (ix2 a 0) = kScale u := by
  unfold scales kScale scaleWord
  rw [scales_at, G.words_row a u hG]

/-- The codes of the row. -/
theorem codes_row (b : Fin 4) (k : Fin 256) : G.codes b (ix2 a k) = kCode u b k.val := by
  unfold codes kCode inverseWord
  rw [codes_at, G.rotated_row a u hG b k, G.exponent_row a u hG]

/-- The dequantised values of the row. -/
theorem deqs_row (b : Fin 4) (k : Fin 256) : G.deqs b (ix2 a k) = kDeq u b k.val := by
  unfold kDeq kScale scaleWord
  rw [← G.codes_row a u hG b k, ← G.words_row a u hG]
  exact deqs_at _ _ _ a k

end Group

end Cert.RotateQuant
-- ==== Proof.QuantPoint.lean ====
module

public import proofs.«01_k».proof.Proof.Group
public import proofs.«01_k».proof.Proof.Gen.QuantKernelIdeal.Value
public import Idealize.ShloMosaic.Lib.Pipeline.ValueKit.Basic
public import Idealize.ShloMosaic.Lib.VecWindow
public import Idealize.ShloMosaic.Lib.WholeRead

/-! One grid point of the quantising kernel: what it leaves in its three output blocks and in its scratch. -/

@[expose] public section

noncomputable section

namespace Cert.RotateQuant

open Cert.QuantKernelIdeal Cert.QuantKernelIdeal.Gen Idealize.ShloMosaic Idealize.ShloMosaic.TcCoe

/-- Block `n` of 256 columns lies in the array. -/
theorem block_inb (n : Fin 24) : ∀ a, (![0, 256 * n.val] : Fin 2 → ℕ) a + S128x256.size a ≤ S128x6144.size a := by
  revert n; decide

theorem signs_inb (n : Fin 24) : ∀ a, (![0, 256 * n.val] : Fin 2 → ℕ) a + S1x256.size a ≤ S1x6144.size a := by
  revert n; decide

theorem scale_inb (g : Fin 6) : ∀ a, (![0, g.val] : Fin 2 → ℕ) a + S128x1.size a ≤ S128x6.size a := by
  revert g; decide

/-- The number of the block that is block `b` of group `g`. -/
def blockOf (g : Fin 6) (b : Fin 4) : Fin 24 := ⟨4 * g.val + b.val, by have := g.isLt; have := b.isLt; omega⟩

/-- The group of a block. -/
def groupOf (n : Fin 24) : Fin 6 := ⟨n.val / 4, by have := n.isLt; omega⟩

/-- The place of a block in its group. -/
def placeOf (n : Fin 24) : Fin 4 := ⟨n.val % 4, by omega⟩

/-- The signed inputs of group `g` of row `a` of a block. -/
def blockGroup (x : S128x6144.Idx → EReal) (s : S1x6144.Idx → BitVec 8) (a : Fin 128) (g : Fin 6) : Fin 1024 → EReal :=
  fun i => x (ix2 a ⟨g.val * 1024 + i.val, by have := g.isLt; have := i.isLt; omega⟩)
    * (((s (ix2 0 ⟨g.val * 1024 + i.val, by have := g.isLt; have := i.isLt; omega⟩)).toInt : ℝ) : EReal)

/-- The group of a column. -/
def groupAt (j : Fin 6144) : Fin 6 := ⟨j.val / 1024, by have := j.isLt; omega⟩

/-- The place of a column's block in its group. -/
def placeAt (j : Fin 6144) : Fin 4 := ⟨j.val / 256 % 4, by omega⟩

/-- The place of a column in its block. -/
def laneAt (j : Fin 6144) : Fin 256 := ⟨j.val % 256, by omega⟩

/-- The codes of a block of rows. -/
def codesBlock (x : S128x6144.Idx → EReal) (s : S1x6144.Idx → BitVec 8) : S128x6144.Idx → EReal :=
  fun y => kCode (blockGroup x s (y 0) (groupAt (y 1))) (placeAt (y 1)) (laneAt (y 1)).val

/-- The scales of a block of rows. -/
def scalesBlock (x : S128x6144.Idx → EReal) (s : S1x6144.Idx → BitVec 8) : S128x6.Idx → EReal :=
  fun y => kScale (blockGroup x s (y 0) (y 1))

/-- The dequantised values of a block of rows. -/
def deqsBlock (x : S128x6144.Idx → EReal) (s : S1x6144.Idx → BitVec 8) : S128x6144.Idx → EReal :=
  fun y => kDeq (blockGroup x s (y 0) (groupAt (y 1))) (placeAt (y 1)) (laneAt (y 1)).val

section
variable (c : Dev nD) (i : grid0.Coords)
  (arg1 : Memref sig .tc .vmem S128x6144 .bf16) (harg1 : arg1.IsWhole) (arg2 : Memref sig .tc .vmem S1x6144 .i8) (harg2 : arg2.IsWhole)
  (arg3 : Memref sig .tc .vmem S128x6144 .fp8e4m3) (harg3 : arg3.IsWhole) (arg4 : Memref sig .tc .vmem S128x6 .f32) (harg4 : arg4.IsWhole)
  (arg5 : Memref sig .tc .vmem S128x6144 .bf16) (harg5 : arg5.IsWhole) (arg6 : Memref sig .tc .vmem S256x256 .bf16) (harg6 : arg6.IsWhole)
  (x : Vec Ideal S128x6144 .bf16) (s : Vec Ideal S1x6144 .i8) (h : Vec Ideal S256x256 .bf16)

/-- Group `g` of the point, on a matrix. -/
def pointGroup (g : Fin 6) : Group where
  matrix := h
  cols b := arg1.view.readAt (Elt Ideal) (Rect.unit (s := S128x6144) ![0, 256 * (blockOf g b).val] S128x256.size (block_inb _)).toLoadRect (harg1.unread x)
  signs b := arg2.view.readAt (Elt Ideal) (Rect.unit (s := S1x6144) ![0, 256 * (blockOf g b).val] S1x256.size (signs_inb _)).toLoadRect (harg2.unread s)

/-- The matrix a later point loads. -/
def loaded : Vec Ideal S256x256 .bf16 :=
  arg6.view.readAt (Elt Ideal) (Rect.unit (s := S256x256) ![0, 0] S256x256.size inb_S256x256_S256x256_0_0).toLoadRect (harg6.unread h)

/-- The codes' store of block `n`. -/
def codesPiece (n : Fin 24) : View.Piece (Elt Ideal) S128x6144 .fp8e4m3 :=
  ⟨Rect.unit (s := S128x6144) ![0, 256 * n.val] S128x256.size (block_inb n), (pointGroup arg1 harg1 arg2 harg2 x s h (groupOf n)).codes (placeOf n)⟩

/-- The scales' store of group `g`. -/
def scalesPiece (g : Fin 6) : View.Piece (Elt Ideal) S128x6 .f32 :=
  ⟨Rect.unit (s := S128x6) ![0, g.val] S128x1.size (scale_inb g), (pointGroup arg1 harg1 arg2 harg2 x s h g).scales⟩

/-- The dequantised values' store of block `n`. -/
def deqsPiece (n : Fin 24) : View.Piece (Elt Ideal) S128x6144 .bf16 :=
  ⟨Rect.unit (s := S128x6144) ![0, 256 * n.val] S128x256.size (block_inb n), (pointGroup arg1 harg1 arg2 harg2 x s h (groupOf n)).deqs (placeOf n)⟩

/-- The blocks, last first. -/
def blocks : List (Fin 24) := [23, 22, 21, 20, 19, 18, 17, 16, 15, 14, 13, 12, 11, 10, 9, 8, 7, 6, 5, 4, 3, 2, 1, 0]

/-- The groups, last first. -/
def groups : List (Fin 6) := [5, 4, 3, 2, 1, 0]

theorem codes_later (hc : ¬cond0_0 i) :
    (kernelRun0_B c i arg1 harg1 arg2 harg2 arg3 harg3 arg4 harg4 arg5 harg5 arg6 harg6 hc x s h).1
      = blocks.map (codesPiece arg1 harg1 arg2 harg2 x s (loaded arg6 harg6 h)) := by
  sl_kernel_rfl

theorem scales_later (hc : ¬cond0_0 i) :
    (kernelRun0_B c i arg1 harg1 arg2 harg2 arg3 harg3 arg4 harg4 arg5 harg5 arg6 harg6 hc x s h).2.1
      = groups.map (scalesPiece arg1 harg1 arg2 harg2 x s (loaded arg6 harg6 h)) := by
  sl_kernel_rfl

theorem deqs_later (hc : ¬cond0_0 i) :
    (kernelRun0_B c i arg1 harg1 arg2 harg2 arg3 harg3 arg4 harg4 arg5 harg5 arg6 harg6 hc x s h).2.2.1
      = blocks.map (deqsPiece arg1 harg1 arg2 harg2 x s (loaded arg6 harg6 h)) := by
  sl_kernel_rfl

/-- The first point's store of the matrix. -/
def matrixPiece : View.Piece (Elt Ideal) S256x256 .bf16 :=
  ⟨Rect.unit (s := S256x256) ![0, 0] S256x256.size inb_S256x256_S256x256_0_0, (k0_pay4 : FVec Ideal S256x256 .bf16)⟩

/-- The matrix the first point loads back. -/
def stored : Vec Ideal S256x256 .bf16 :=
  arg6.view.readCov (Val := Elt Ideal) [matrixPiece] (Rect.unit (s := S256x256) ![0, 0] S256x256.size inb_S256x256_S256x256_0_0).toLoadRect

theorem matrix_first (hc : cond0_0 i) :
    (kernelRun0_A c i arg1 harg1 arg2 harg2 arg3 harg3 arg4 harg4 arg5 harg5 arg6 harg6 hc x s).2.2.2.1 = [matrixPiece] := by
  sl_kernel_rfl

theorem codes_first (hc : cond0_0 i) :
    (kernelRun0_A c i arg1 harg1 arg2 harg2 arg3 harg3 arg4 harg4 arg5 harg5 arg6 harg6 hc x s).1
      = blocks.map (codesPiece arg1 harg1 arg2 harg2 x s (stored arg6)) := by
  sl_kernel_rfl

theorem scales_first (hc : cond0_0 i) :
    (kernelRun0_A c i arg1 harg1 arg2 harg2 arg3 harg3 arg4 harg4 arg5 harg5 arg6 harg6 hc x s).2.1
      = groups.map (scalesPiece arg1 harg1 arg2 harg2 x s (stored arg6)) := by
  sl_kernel_rfl

theorem deqs_first (hc : cond0_0 i) :
    (kernelRun0_A c i arg1 harg1 arg2 harg2 arg3 harg3 arg4 harg4 arg5 harg5 arg6 harg6 hc x s).2.2.1
      = blocks.map (deqsPiece arg1 harg1 arg2 harg2 x s (stored arg6)) := by
  sl_kernel_rfl

theorem loaded_eq : loaded arg6 harg6 h = h := by
  funext y
  unfold loaded
  rw [harg6.readAt_unread]
  exact congrArg h (Rect.emb_unit_full _ _)

theorem matrix_pieces : ∀ p ∈ [matrixPiece], ∀ y : p.1.shape.Idx, p.2 y = (k0_pay4 : FVec Ideal S256x256 .bf16) (p.1.emb y) := by
  intro p hp y
  obtain rfl := List.mem_singleton.1 hp
  exact congrArg (k0_pay4 : FVec Ideal S256x256 .bf16) (Rect.emb_unit_full inb_S256x256_S256x256_0_0 y).symm

include harg1 harg2 in
/-- The first point leaves the Hadamard matrix in the scratch. -/
theorem scratch_first (hc : cond0_0 i) :
    sout0_A_0 c i arg1 harg1 arg2 harg2 arg3 harg3 arg4 harg4 arg5 harg5 arg6 harg6 hc x s = (k0_pay4 : FVec Ideal S256x256 .bf16) := by
  funext y
  unfold sout0_A_0
  refine View.read_writes_apply_of_pieces _ _ (k0_pay4 : FVec Ideal S256x256 .bf16) _ ?_ y
    (scover0_A_0 c i arg1 harg1 arg2 harg2 arg3 harg3 arg4 harg4 arg5 harg5 arg6 harg6 hc x s y)
  rw [matrix_first]
  exact matrix_pieces

theorem stored_eq : stored arg6 = (k0_pay4 : FVec Ideal S256x256 .bf16) := by
  funext y
  unfold stored
  refine (View.read_writes_apply_of_pieces _ _ (k0_pay4 : FVec Ideal S256x256 .bf16) _ matrix_pieces _
    ⟨matrixPiece, List.mem_singleton_self _, ?_⟩).trans ?_
  · show _ ∈ matrixPiece.1.set
    rw [← Rect.map_emb_univ]
    exact Finset.mem_map_of_mem _ (Finset.mem_univ _)
  exact congrArg _ (Rect.emb_unit_full _ _)

/-- A row of a group of the point. -/
theorem pointGroup_row (g : Fin 6) (a : Fin 128) (hh : h = (k0_pay4 : FVec Ideal S256x256 .bf16)) :
    (pointGroup arg1 harg1 arg2 harg2 x s h g).Row a (blockGroup x s a g) where
  matrix := hh
  cols b i := by
    unfold pointGroup blockGroup
    dsimp only
    rw [harg1.readAt_unread, harg2.readAt_unread]
    refine congrArg₂ (fun (u : EReal) (w : BitVec 8) => u * ((w.toInt : ℝ) : EReal)) (congrArg x ?_) (congrArg s ?_)
    all_goals
      funext d
      match d with
      | ⟨0, _⟩ => exact Fin.ext (show 0 + 1 * _ = _ by simp)
      | ⟨1, _⟩ => exact Fin.ext (show 256 * (4 * g.val + b.val) + 1 * i.val = g.val * 1024 + (256 * b.val + i.val) by omega)

/-- Column `k` of block `n`. -/
def colAt (n : Fin 24) (k : Fin 256) : Fin 6144 := ⟨256 * n.val + k.val, by have := n.isLt; have := k.isLt; omega⟩

theorem emb_block (n : Fin 24) (a : Fin 128) (k : Fin 256) :
    (Rect.unit (s := S128x6144) ![0, 256 * n.val] S128x256.size (block_inb n)).emb (ix2 a k : S128x256.Idx)
      = (ix2 a (colAt n k) : S128x6144.Idx) := by
  funext d
  match d with
  | ⟨0, _⟩ => exact Fin.ext (show 0 + 1 * a.val = a.val by omega)
  | ⟨1, _⟩ => exact Fin.ext (show 256 * n.val + 1 * k.val = 256 * n.val + k.val by omega)

theorem groupAt_block (n : Fin 24) (k : Fin 256) : groupAt (colAt n k) = groupOf n :=
  Fin.ext (show (256 * n.val + k.val) / 1024 = n.val / 4 by have := k.isLt; omega)

theorem placeAt_block (n : Fin 24) (k : Fin 256) : placeAt (colAt n k) = placeOf n :=
  Fin.ext (show (256 * n.val + k.val) / 256 % 4 = n.val % 4 by have := k.isLt; omega)

theorem laneAt_block (n : Fin 24) (k : Fin 256) : laneAt (colAt n k) = k :=
  Fin.ext (show (256 * n.val + k.val) % 256 = k.val by have := k.isLt; omega)

theorem codes_pieces (hh : h = (k0_pay4 : FVec Ideal S256x256 .bf16)) :
    ∀ p ∈ blocks.map (codesPiece arg1 harg1 arg2 harg2 x s h), ∀ y : p.1.shape.Idx, p.2 y = codesBlock x s (p.1.emb y) := by
  intro p hp y
  obtain ⟨n, -, rfl⟩ := List.mem_map.1 hp
  obtain ⟨a, k, rfl⟩ : ∃ (a : Fin 128) (k : Fin 256), y = ix2 a k := ⟨y 0, y 1, eq_ix2 y⟩
  refine ((pointGroup arg1 harg1 arg2 harg2 x s h (groupOf n)).codes_row a _ (pointGroup_row arg1 harg1 arg2 harg2 x s h (groupOf n) a hh) (placeOf n) k).trans ?_
  refine Eq.trans ?_ (congrArg (codesBlock x s) (emb_block n a k)).symm
  show _ = kCode (blockGroup x s a (groupAt (colAt n k))) (placeAt (colAt n k)) (laneAt (colAt n k)).val
  rw [groupAt_block, placeAt_block, laneAt_block]

theorem deqs_pieces (hh : h = (k0_pay4 : FVec Ideal S256x256 .bf16)) :
    ∀ p ∈ blocks.map (deqsPiece arg1 harg1 arg2 harg2 x s h), ∀ y : p.1.shape.Idx, p.2 y = deqsBlock x s (p.1.emb y) := by
  intro p hp y
  obtain ⟨n, -, rfl⟩ := List.mem_map.1 hp
  obtain ⟨a, k, rfl⟩ : ∃ (a : Fin 128) (k : Fin 256), y = ix2 a k := ⟨y 0, y 1, eq_ix2 y⟩
  refine ((pointGroup arg1 harg1 arg2 harg2 x s h (groupOf n)).deqs_row a _ (pointGroup_row arg1 harg1 arg2 harg2 x s h (groupOf n) a hh) (placeOf n) k).trans ?_
  refine Eq.trans ?_ (congrArg (deqsBlock x s) (emb_block n a k)).symm
  show _ = kDeq (blockGroup x s a (groupAt (colAt n k))) (placeAt (colAt n k)) (laneAt (colAt n k)).val
  rw [groupAt_block, placeAt_block, laneAt_block]

theorem scales_pieces (hh : h = (k0_pay4 : FVec Ideal S256x256 .bf16)) :
    ∀ p ∈ groups.map (scalesPiece arg1 harg1 arg2 harg2 x s h), ∀ y : p.1.shape.Idx, p.2 y = scalesBlock x s (p.1.emb y) := by
  intro p hp y
  obtain ⟨g, -, rfl⟩ := List.mem_map.1 hp
  obtain ⟨a, rfl⟩ : ∃ a : Fin 128, y = ix2 a (0 : Fin 1) := ⟨y 0, by
    funext d
    match d with
    | ⟨0, _⟩ => rfl
    | ⟨1, _⟩ => exact Fin.ext (Nat.lt_one_iff.1 (y 1).isLt)⟩
  refine ((pointGroup arg1 harg1 arg2 harg2 x s h g).scales_row a _ (pointGroup_row arg1 harg1 arg2 harg2 x s h g a hh)).trans ?_
  have e : (scalesPiece arg1 harg1 arg2 harg2 x s h g).1.emb (ix2 a (0 : Fin 1) : S128x1.Idx) = (ix2 a g : S128x6.Idx) := by
    funext d
    match d with
    | ⟨0, _⟩ => exact Fin.ext (show 0 + 1 * a.val = a.val by omega)
    | ⟨1, _⟩ => exact Fin.ext (show g.val + 1 * 0 = g.val by omega)
  exact (congrArg (scalesBlock x s) e).symm

/-- What the first point leaves in the block of codes … -/
theorem codes_out_first (hc : cond0_0 i) :
    out0_A_2 c i arg1 harg1 arg2 harg2 arg3 harg3 arg4 harg4 arg5 harg5 arg6 harg6 hc x s = codesBlock x s := by
  funext y
  unfold out0_A_2
  refine View.read_writes_apply_of_pieces _ _ (codesBlock x s) _ ?_ y
    (cover0_A_2 c i arg1 harg1 arg2 harg2 arg3 harg3 arg4 harg4 arg5 harg5 arg6 harg6 hc x s y)
  rw [codes_first]
  exact codes_pieces arg1 harg1 arg2 harg2 x s _ (stored_eq arg6)

/-- … in the block of scales … -/
theorem scales_out_first (hc : cond0_0 i) :
    out0_A_3 c i arg1 harg1 arg2 harg2 arg3 harg3 arg4 harg4 arg5 harg5 arg6 harg6 hc x s = scalesBlock x s := by
  funext y
  unfold out0_A_3
  refine View.read_writes_apply_of_pieces _ _ (scalesBlock x s) _ ?_ y
    (cover0_A_3 c i arg1 harg1 arg2 harg2 arg3 harg3 arg4 harg4 arg5 harg5 arg6 harg6 hc x s y)
  rw [scales_first]
  exact scales_pieces arg1 harg1 arg2 harg2 x s _ (stored_eq arg6)

/-- … and in the block of dequantised values. -/
theorem deqs_out_first (hc : cond0_0 i) :
    out0_A_4 c i arg1 harg1 arg2 harg2 arg3 harg3 arg4 harg4 arg5 harg5 arg6 harg6 hc x s = deqsBlock x s := by
  funext y
  unfold out0_A_4
  refine View.read_writes_apply_of_pieces _ _ (deqsBlock x s) _ ?_ y
    (cover0_A_4 c i arg1 harg1 arg2 harg2 arg3 harg3 arg4 harg4 arg5 harg5 arg6 harg6 hc x s y)
  rw [deqs_first]
  exact deqs_pieces arg1 harg1 arg2 harg2 x s _ (stored_eq arg6)

variable (hh : h = (k0_pay4 : FVec Ideal S256x256 .bf16))

include hh

/-- What a later point leaves in the block of codes when the scratch holds the Hadamard matrix … -/
theorem codes_out_later (hc : ¬cond0_0 i) :
    out0_B_2 c i arg1 harg1 arg2 harg2 arg3 harg3 arg4 harg4 arg5 harg5 arg6 harg6 hc x s h = codesBlock x s := by
  funext y
  unfold out0_B_2
  refine View.read_writes_apply_of_pieces _ _ (codesBlock x s) _ ?_ y
    (cover0_B_2 c i arg1 harg1 arg2 harg2 arg3 harg3 arg4 harg4 arg5 harg5 arg6 harg6 hc x s h y)
  rw [codes_later]
  exact codes_pieces arg1 harg1 arg2 harg2 x s _ ((loaded_eq arg6 harg6 h).trans hh)

/-- … in the block of scales … -/
theorem scales_out_later (hc : ¬cond0_0 i) :
    out0_B_3 c i arg1 harg1 arg2 harg2 arg3 harg3 arg4 harg4 arg5 harg5 arg6 harg6 hc x s h = scalesBlock x s := by
  funext y
  unfold out0_B_3
  refine View.read_writes_apply_of_pieces _ _ (scalesBlock x s) _ ?_ y
    (cover0_B_3 c i arg1 harg1 arg2 harg2 arg3 harg3 arg4 harg4 arg5 harg5 arg6 harg6 hc x s h y)
  rw [scales_later]
  exact scales_pieces arg1 harg1 arg2 harg2 x s _ ((loaded_eq arg6 harg6 h).trans hh)

/-- … and in the block of dequantised values. -/
theorem deqs_out_later (hc : ¬cond0_0 i) :
    out0_B_4 c i arg1 harg1 arg2 harg2 arg3 harg3 arg4 harg4 arg5 harg5 arg6 harg6 hc x s h = deqsBlock x s := by
  funext y
  unfold out0_B_4
  refine View.read_writes_apply_of_pieces _ _ (deqsBlock x s) _ ?_ y
    (cover0_B_4 c i arg1 harg1 arg2 harg2 arg3 harg3 arg4 harg4 arg5 harg5 arg6 harg6 hc x s h y)
  rw [deqs_later]
  exact deqs_pieces arg1 harg1 arg2 harg2 x s _ ((loaded_eq arg6 harg6 h).trans hh)

end

end Cert.RotateQuant
-- ==== Proof.QuantArray.lean ====
module

public import proofs.«01_k».proof.Proof.QuantPoint
public import Idealize.ShloMosaic.Lib.ValueLayout

/-! The arrays the quantising kernel leaves.  Every point finds the Hadamard matrix in the scratch (`scratch_value`), so it
leaves in its three blocks what its 128 rows become (`point_value`); put together, the blocks are the codes, the scales and
the dequantised values of the whole array, as the reference states them, wherever the signed inputs are real and not too large
(`codes_value`, `scales_value`, `deqs_value`). -/

@[expose] public section

noncomputable section

namespace Cert.RotateQuant

open Cert.QuantKernelIdeal Cert.QuantKernelIdeal.Gen Cert.QuantKernelIdeal.Value Idealize.ShloMosaic Idealize.ShloMosaic.TcCoe

theorem index_x : ∀ t : Fin cfg0.N, win0_0.index t (0 : Fin 2) = t.val ∧ win0_0.index t (1 : Fin 2) = 0 :=
  (by decide +kernel : ∀ t : Fin grid0.N, _)
theorem index_signs : ∀ t : Fin cfg0.N, win0_1.index t (0 : Fin 2) = 0 ∧ win0_1.index t (1 : Fin 2) = 0 :=
  (by decide +kernel : ∀ t : Fin grid0.N, _)

variable (m : (ℓ : Loc nD τ sig) → Buf (Elt Ideal) ℓ) (c : Dev nD)

/-- The inputs by row and column. -/
def inputs (a : Fin 3456) (b : Fin 6144) : EReal := (m ((c : Thread nD τ).loc main_arg0) : S3456x6144.Idx → EReal) (ix2 a b)

/-- The signs by column. -/
def signsOf (b : Fin 6144) : BitVec 8 := (m ((c : Thread nD τ).loc main_arg1) : S6144.Idx → BitVec 8) (ix1 b)

/-- The signs the launch hands the kernel: the signs with a unit axis in front. -/
theorem signs_apply (b : Fin 6144) : (V m c main_v0 : S1x6144.Idx → BitVec 8) (ix2 0 b) = signsOf m c b := by
  rw [show V m c main_v0 = (shapeCast S1x6144 (m ((c : Thread nD τ).loc main_arg1) : Vec Ideal S6144 .i8) shapeCasts_S6144_S1x6144 : Vec Ideal S1x6144 .i8) from by
      show StableHlo.after hostOps0 _ _ = _
      rfl]
  exact ValueIdx.shapeCast_a_1a_apply _ _ _ _

theorem point_lt (t : Fin cfg0.N) : t.val < 27 := lt_of_lt_of_eq t.isLt N_0

/-- Row `a` of point `t`. -/
def rowOf (t : Fin cfg0.N) (a : Fin 128) : Fin 3456 := ⟨128 * t.val + a.val, by have := a.isLt; have := point_lt t; omega⟩

/-- The inputs point `t` sees: its 128 rows. -/
theorem x_block (t : Fin cfg0.N) (a : Fin 128) (k : Fin 6144) : (iblk m c 0 t : S128x6144.Idx → EReal) (ix2 a k) = inputs m c (rowOf t a) k := by
  unfold inputs
  rw [← V_main_arg0 m c]
  refine congrArg (V m c main_arg0 : S3456x6144.Idx → EReal) ?_
  obtain ⟨e0, e1⟩ := index_x t
  funext b
  match b with
  | ⟨0, _⟩ => exact Fin.ext (show win0_0.index t (0 : Fin 2) * 128 + 1 * a.val = _ by rw [e0]; show _ = 128 * t.val + a.val; omega)
  | ⟨1, _⟩ => exact Fin.ext (show win0_0.index t (1 : Fin 2) * 6144 + 1 * k.val = _ by rw [e1]; show _ = k.val; omega)

/-- Every point sees all the signs. -/
theorem signs_block (t : Fin cfg0.N) (k : Fin 6144) : (iblk m c 1 t : S1x6144.Idx → BitVec 8) (ix2 0 k) = signsOf m c k := by
  rw [← signs_apply m c]
  refine congrArg (V m c main_v0 : S1x6144.Idx → BitVec 8) ?_
  obtain ⟨e0, e1⟩ := index_signs t
  funext b
  match b with
  | ⟨0, _⟩ => exact Fin.ext (show win0_1.index t (0 : Fin 2) * 1 + 1 * 0 = _ by rw [e0]; rfl)
  | ⟨1, _⟩ => exact Fin.ext (show win0_1.index t (1 : Fin 2) * 6144 + 1 * k.val = _ by rw [e1]; show _ = k.val; omega)

/-- The signed inputs of a group of a row of point `t` are those of the whole array. -/
theorem group_block (t : Fin cfg0.N) (a : Fin 128) (g : Fin 6) :
    blockGroup (iblk m c 0 t) (iblk m c 1 t) a g = group (inputs m c) (signsOf m c) (rowOf t a) g := by
  funext i
  unfold blockGroup group
  rw [x_block, signs_block]

/-- After every point the scratch holds the Hadamard matrix. -/
theorem scratch_value : ∀ (n : ℕ) (hn : n < cfg0.N), (outsAt0 m c n hn).2.2.2 = (k0_pay4 : FVec Ideal S256x256 .bf16) := by
  intro n
  induction n with
  | zero =>
    intro hn
    rw [outsAt0_A m c ⟨0, hn⟩ (Nat.zero_mod _)]
    dsimp only
    rw [scratch_first]
  | succ n ih =>
    intro hn
    have h : ¬(n + 1) % 27 = 0 := by
      have : n + 1 < 27 := lt_of_lt_of_eq hn N_0
      omega
    rw [outsAt0_B m c ⟨n + 1, hn⟩ h]
    exact ih _

/-- After every point the three blocks hold the codes, the scales and the dequantised values of the point's rows. -/
theorem point_value (t : Fin cfg0.N) :
    (outsAt0 m c t.val t.isLt).1 = codesBlock (iblk m c 0 t) (iblk m c 1 t)
    ∧ (outsAt0 m c t.val t.isLt).2.1 = scalesBlock (iblk m c 0 t) (iblk m c 1 t)
    ∧ (outsAt0 m c t.val t.isLt).2.2.1 = deqsBlock (iblk m c 0 t) (iblk m c 1 t) := by
  by_cases h : t.val % 27 = 0
  · rw [outsAt0_A m c t h]
    dsimp only
    rw [codes_out_first, scales_out_first, deqs_out_first]
    exact ⟨rfl, rfl, rfl⟩
  · rw [outsAt0_B m c t h]
    dsimp only
    have hh := scratch_value m c (t.val - 1) (Nat.lt_of_le_of_lt (Nat.sub_le _ _) t.isLt)
    rw [hh, codes_out_later (hh := rfl), scales_out_later (hh := rfl), deqs_out_later (hh := rfl)]
    exact ⟨rfl, rfl, rfl⟩

theorem lane_eq (j : Fin 6144) : 256 * (placeAt j).val + (laneAt j).val = j.val % 1024 := by
  show 256 * (j.val / 256 % 4) + j.val % 256 = j.val % 1024
  omega

variable (tame : ∀ a g, Tame (group (inputs m c) (signsOf m c) a g))

include tame

/-- The codes the kernel leaves. -/
theorem codes_value (a : Fin 3456) (b : Fin 6144) : (G2 m c : S3456x6144.Idx → EReal) (ix2 a b) = codes (inputs m c) (signsOf m c) a b := by
  have hp : pt2Of (ix2 a b) < cfg0.N := lt_of_lt_of_eq (by
    have := a.isLt; have := b.isLt; show 1 * (a.val / 128 - 0) + 1 * (b.val / 6144 - 0) < 27; omega) N_0.symm
  have hr : rowOf ⟨_, hp⟩ ⟨a.val % 128, Nat.mod_lt _ (by decide)⟩ = a := Fin.ext (by
    have := b.isLt; show 128 * (1 * (a.val / 128 - 0) + 1 * (b.val / 6144 - 0)) + a.val % 128 = a.val; omega)
  have hl : loc2Of (ix2 a b) = ix2 ⟨a.val % 128, Nat.mod_lt _ (by decide)⟩ b := by
    funext d
    match d with
    | ⟨0, _⟩ => rfl
    | ⟨1, _⟩ => exact Fin.ext (Nat.mod_eq_of_lt b.isLt)
  unfold G2
  rw [dif_pos hp, ← outsAt0_sweep m c _ hp, (point_value m c ⟨_, hp⟩).1, hl]
  show kCode (blockGroup (iblk m c 0 ⟨_, hp⟩) (iblk m c 1 ⟨_, hp⟩) ⟨a.val % 128, _⟩ (groupAt b)) (placeAt b) (laneAt b).val = _
  rw [group_block, hr, kCode_eq _ (tame a (groupAt b)), lane_eq]
  rfl

/-- The scales the kernel leaves. -/
theorem scales_value (a : Fin 3456) (g : Fin 6) : (G3 m c : S3456x6.Idx → EReal) (ix2 a g) = scales (inputs m c) (signsOf m c) a g := by
  have hp : pt3Of (ix2 a g) < cfg0.N := lt_of_lt_of_eq (by
    have := a.isLt; have := g.isLt; show 1 * (a.val / 128 - 0) + 1 * (g.val / 6 - 0) < 27; omega) N_0.symm
  have hr : rowOf ⟨_, hp⟩ ⟨a.val % 128, Nat.mod_lt _ (by decide)⟩ = a := Fin.ext (by
    have := g.isLt; show 128 * (1 * (a.val / 128 - 0) + 1 * (g.val / 6 - 0)) + a.val % 128 = a.val; omega)
  have hl : loc3Of (ix2 a g) = ix2 ⟨a.val % 128, Nat.mod_lt _ (by decide)⟩ g := by
    funext d
    match d with
    | ⟨0, _⟩ => rfl
    | ⟨1, _⟩ => exact Fin.ext (Nat.mod_eq_of_lt g.isLt)
  unfold G3
  rw [dif_pos hp, ← outsAt0_sweep m c _ hp, (point_value m c ⟨_, hp⟩).2.1, hl]
  show kScale (blockGroup (iblk m c 0 ⟨_, hp⟩) (iblk m c 1 ⟨_, hp⟩) ⟨a.val % 128, _⟩ g) = _
  rw [group_block, hr, kScale_eq _ (tame a g)]
  rfl

/-- The dequantised values the kernel leaves. -/
theorem deqs_value (a : Fin 3456) (b : Fin 6144) : (G4 m c : S3456x6144.Idx → EReal) (ix2 a b) = deqs (inputs m c) (signsOf m c) a b := by
  have hp : pt4Of (ix2 a b) < cfg0.N := lt_of_lt_of_eq (by
    have := a.isLt; have := b.isLt; show 1 * (a.val / 128 - 0) + 1 * (b.val / 6144 - 0) < 27; omega) N_0.symm
  have hr : rowOf ⟨_, hp⟩ ⟨a.val % 128, Nat.mod_lt _ (by decide)⟩ = a := Fin.ext (by
    have := b.isLt; show 128 * (1 * (a.val / 128 - 0) + 1 * (b.val / 6144 - 0)) + a.val % 128 = a.val; omega)
  have hl : loc4Of (ix2 a b) = ix2 ⟨a.val % 128, Nat.mod_lt _ (by decide)⟩ b := by
    funext d
    match d with
    | ⟨0, _⟩ => rfl
    | ⟨1, _⟩ => exact Fin.ext (Nat.mod_eq_of_lt b.isLt)
  unfold G4
  rw [dif_pos hp, ← outsAt0_sweep m c _ hp, (point_value m c ⟨_, hp⟩).2.2, hl]
  show kDeq (blockGroup (iblk m c 0 ⟨_, hp⟩) (iblk m c 1 ⟨_, hp⟩) ⟨a.val % 128, _⟩ (groupAt b)) (placeAt b) (laneAt b).val = _
  rw [group_block, hr, kDeq_eq _ (tame a (groupAt b)), lane_eq]
  rfl

end Cert.RotateQuant
-- ==== Proof.Rotated.lean ====
module

public import proofs.«01_k».proof.Proof.Gen.QuantReferenceIdeal.Skeleton
public import proofs.«01_k».proof.Proof.Scale

/-! The arithmetic of the reference read at an index: the rotated values, the scales, the codes and the dequantised values are
those of the group the index lies in. -/

@[expose] public section

noncomputable section

namespace Cert.QuantReferenceIdeal.Gen

open Idealize.ShloMosaic Cert.RotateQuant

/-- The array of rows as a function of row and column. -/
def rows (x : Vec Ideal S3456x6144 .bf16) : Fin 3456 → Fin 6144 → EReal := fun a b => x (ix2 a b)

/-- The signs as a function of the column. -/
def signs (s : Vec Ideal S6144 .i8) : Fin 6144 → BitVec 8 := fun b => s (ix1 b)

theorem sitofp_f32 (w : BitVec 32) : (FloatOps.sitofp .f32 w : Ideal .f32) = ((w.toInt : ℝ) : EReal) := rfl

theorem sitofp_bf16 (w : BitVec 8) : (FloatOps.sitofp .bf16 w : Ideal .bf16) = ((w.toInt : ℝ) : EReal) := rfl

theorem absf_eq (v : Ideal .f32) : (FloatOps.absf v : Ideal .f32) = max v (-v) := rfl

theorem exp2_eq (v : Ideal .f32) : (FloatOps.exp2 v : Ideal .f32) = Ideal.exp2 v := rfl

theorem rotated_value (s : Vec Ideal S6144 .i8) (x : Vec Ideal S3456x6144 .bf16) (a : Fin 3456) (g : Fin 6) (k : Fin 1024) :
    k0_pay4 s x (ix3 a g k) = rotate (group (rows x) (signs s) a g) k.val := by
  unfold k0_pay4
  pointwise
  simp only [sitofp_f32, sitofp_bf16]
  unfold rotate group had signWord rows signs
  with_reducible rfl

/-- The greatest absolute values of the groups of `v`. -/
def topVec (v : FVec Ideal S3456x6x1024 .f32) : FVec Ideal S3456x6 .f32 :=
  multiReduction .maximumf [2] S3456x6 (absf v) 0xFF800000#32 reduces_S3456x6x1024_S3456x6 (.inl rfl) rfl

/-- The exponents of the scales, of the greatest absolute values. -/
def expVec (v : FVec Ideal S3456x6 .f32) : FVec Ideal S3456x6 .f32 :=
  select (cmpf .oeq v (broadcast S3456x6 (Scalar.ofBits .f32 0x00000000#32))) (broadcast S3456x6 (Scalar.ofBits .f32 0x00000000#32))
    (addf (floor (divf (log (mulf v (broadcast S3456x6 (Scalar.ofBits .f32 0x3B124925#32)))) (log (broadcast S3456x6 (Scalar.ofBits .f32 0x40000000#32)))))
      (broadcast S3456x6 (Scalar.ofBits .f32 0x3F800000#32)))

theorem exponents_eq (s : Vec Ideal S6144 .i8) (x : Vec Ideal S3456x6144 .bf16) : k0_pay5 s x = expVec (topVec (k0_pay4 s x)) := by
  unfold k0_pay5
  generalize k0_pay4 s x = v
  unfold expVec topVec
  with_reducible rfl

theorem top_at (v : FVec Ideal S3456x6x1024 .f32) (a : Fin 3456) (g : Fin 6) :
    topVec v (ix2 a g) = (Finset.univ : Finset (Fin 1024)).fold max (Ideal.ofBits .f32 0xFF800000#32) fun k => FloatOps.absf (v (ix3 a g k)) := by
  unfold topVec
  pointwise

theorem exp_at (v : FVec Ideal S3456x6 .f32) (a : Fin 3456) (g : Fin 6) : expVec v (ix2 a g) = expOf (v (ix2 a g)) := by
  unfold expVec
  pointwise
  unfold expOf
  with_reducible rfl

theorem exponent_value (s : Vec Ideal S6144 .i8) (x : Vec Ideal S3456x6144 .bf16) (a : Fin 3456) (g : Fin 6) :
    k0_pay5 s x (ix2 a g) = expOf (top (group (rows x) (signs s) a g)) := by
  rw [exponents_eq, exp_at, top_at]
  unfold top
  refine congrArg expOf (congrArg (fun f => Finset.fold max _ f Finset.univ) (funext fun k => ?_))
  rw [rotated_value s x a g k, absf_eq]

theorem exp2_at (e : FVec Ideal S3456x6 .f32) (a : Fin 3456) (g : Fin 6) : exp2 e (ix2 a g) = Ideal.exp2 (e (ix2 a g)) := rfl

theorem scale_value (s : Vec Ideal S6144 .i8) (x : Vec Ideal S3456x6144 .bf16) (a : Fin 3456) (g : Fin 6) :
    k0_pay6 s x (ix2 a g) = scales (rows x) (signs s) a g := by
  unfold k0_pay6 scales scale
  exact (exp2_at (k0_pay5 s x) a g).trans (congrArg Ideal.exp2 (exponent_value s x a g))

/-- The rotated values times the inverses of the scales. -/
def scaledVec (v : FVec Ideal S3456x6x1024 .f32) (e : FVec Ideal S3456x6 .f32) : FVec Ideal S3456x6x1024 .f32 :=
  mulf v (broadcastTo S3456x6x1024 (shapeCast S3456x6x1 (exp2 (subf (broadcast S3456x6 (Scalar.ofBits .f32 0x00000000#32)) e)) shapeCasts_S3456x6_S3456x6x1 : FVec Ideal S3456x6x1 .f32)
    broadcasts_S3456x6x1_S3456x6x1024)

theorem scaled_at (v : FVec Ideal S3456x6x1024 .f32) (e : FVec Ideal S3456x6 .f32) (a : Fin 3456) (g : Fin 6) (k : Fin 1024) :
    scaledVec v e (ix3 a g k) = v (ix3 a g k) * Ideal.exp2 (0 - e (ix2 a g)) := by
  unfold scaledVec
  pointwise
  simp only [exp2_eq]

theorem scaled_eq (s : Vec Ideal S6144 .i8) (x : Vec Ideal S3456x6144 .bf16) : k0_pay7 s x = scaledVec (k0_pay4 s x) (k0_pay5 s x) := by
  unfold k0_pay7
  generalize k0_pay5 s x = e
  generalize k0_pay4 s x = v
  unfold scaledVec
  with_reducible rfl

theorem scaled_value (s : Vec Ideal S6144 .i8) (x : Vec Ideal S3456x6144 .bf16) (a : Fin 3456) (g : Fin 6) (k : Fin 1024) :
    k0_pay7 s x (ix3 a g k)
      = rotate (group (rows x) (signs s) a g) k.val * Ideal.exp2 (0 - expOf (top (group (rows x) (signs s) a g))) := by
  rw [scaled_eq, scaled_at, rotated_value, exponent_value]

theorem clipped_value (v : FVec Ideal S3456x6x1024 .f32) (a : Fin 3456) (g : Fin 6) (k : Fin 1024) :
    k0_pay1 v (ix3 a g k) = min (Ideal.ofBits .f32 0x43E00000#32) (max (Ideal.ofBits .f32 0xC3E00000#32) (v (ix3 a g k))) := by
  unfold k0_pay1
  pointwise

theorem codes_of (v : FVec Ideal S3456x6x1024 .f32) (a : Fin 3456) (b : Fin 6144) :
    k0_pay2 v (ix2 a b)
      = k0_pay1 v (ix3 a ⟨b.val / 1024, by have := b.isLt; omega⟩ ⟨b.val % 1024, Nat.mod_lt _ (by decide)⟩) := by
  unfold k0_pay2
  generalize k0_pay1 v = w
  pointwise

theorem deq_of (s : FVec Ideal S3456x6 .f32) (v : FVec Ideal S3456x6x1024 .f32) (a : Fin 3456) (b : Fin 6144) :
    k0_pay3 s v (ix2 a b)
      = k0_pay1 v (ix3 a ⟨b.val / 1024, by have := b.isLt; omega⟩ ⟨b.val % 1024, Nat.mod_lt _ (by decide)⟩) * s (ix2 a ⟨b.val / 1024, by have := b.isLt; omega⟩) := by
  unfold k0_pay3
  generalize k0_pay1 v = w
  pointwise

/-- The codes are those of the group the column lies in. -/
theorem codes_value (s : Vec Ideal S6144 .i8) (x : Vec Ideal S3456x6144 .bf16) (a : Fin 3456) (b : Fin 6144) :
    k0_pay2 (k0_pay7 s x) (ix2 a b) = codes (rows x) (signs s) a b := by
  rw [codes_of, clipped_value, scaled_value]
  unfold codes code
  with_reducible rfl

/-- The dequantised values are those of the group the column lies in. -/
theorem deq_value (s : Vec Ideal S6144 .i8) (x : Vec Ideal S3456x6144 .bf16) (a : Fin 3456) (b : Fin 6144) :
    k0_pay3 (k0_pay6 s x) (k0_pay7 s x) (ix2 a b) = deqs (rows x) (signs s) a b := by
  rw [deq_of, clipped_value, scaled_value, scale_value]
  unfold deqs deq code scales
  with_reducible rfl

end Cert.QuantReferenceIdeal.Gen
-- ==== Proof.QuantReference.lean ====
module

public import proofs.«01_k».proof.Proof.Gen.QuantReferenceIdeal.Frame
public import proofs.«01_k».proof.Proof.Rotated
public import Idealize.ShloMosaic.Lib.Pipeline.Value

/-! The run of the reference of the quantiser.  It has one grid point, whose windows are the whole arrays, so each array ends at
what the body stores: the codes, the scales and the dequantised values of the arguments (`run`). -/

@[expose] public section

noncomputable section

namespace Cert.QuantReferenceIdeal.Spec

open Cert.QuantReferenceIdeal Cert.QuantReferenceIdeal.Gen Cert.RotateQuant Idealize.ShloMosaic Idealize.ShloMosaic.TcCoe Idealize.SL.Sem

variable (m : (ℓ : Loc nD τ sig) → Buf (Elt Ideal) ℓ) (ρ : Dev nD → PrngReg)

/-- Every window's block is at the origin. -/
theorem index_zero : ∀ t : Fin cfg0.N, (win0_0.index t (0 : Fin 2) = 0 ∧ win0_0.index t (1 : Fin 2) = 0) ∧ win0_1.index t (0 : Fin 1) = 0
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem emb_x (t : Fin cfg0.N) (j : S3456x6144.Idx) : ((cfg0.win 0).blk t).view.emb j = j := by
  obtain ⟨⟨e0, e1⟩, -⟩ := index_zero t
  funext a; apply Fin.ext
  match a with
  | ⟨0, _⟩ => show win0_0.index t (0 : Fin 2) * 3456 + 1 * (j 0).val = (j 0).val; omega
  | ⟨1, _⟩ => show win0_0.index t (1 : Fin 2) * 6144 + 1 * (j 1).val = (j 1).val; omega

theorem emb_signs (t : Fin cfg0.N) (j : S6144.Idx) : ((cfg0.win 1).blk t).view.emb j = j := by
  obtain ⟨-, e0, -⟩ := index_zero t
  funext a; apply Fin.ext
  match a with
  | ⟨0, _⟩ => show win0_1.index t (0 : Fin 1) * 6144 + 1 * (j 0).val = (j 0).val; omega

theorem emb_codes (t : Fin cfg0.N) (j : S3456x6144.Idx) : ((cfg0.win 2).blk t).view.emb j = j := by
  obtain ⟨-, -, ⟨e0, e1⟩, -⟩ := index_zero t
  funext a; apply Fin.ext
  match a with
  | ⟨0, _⟩ => show win0_2.index t (0 : Fin 2) * 3456 + 1 * (j 0).val = (j 0).val; omega
  | ⟨1, _⟩ => show win0_2.index t (1 : Fin 2) * 6144 + 1 * (j 1).val = (j 1).val; omega

theorem emb_scales (t : Fin cfg0.N) (j : S3456x6.Idx) : ((cfg0.win 3).blk t).view.emb j = j := by
  obtain ⟨-, -, -, ⟨e0, e1⟩, -⟩ := index_zero t
  funext a; apply Fin.ext
  match a with
  | ⟨0, _⟩ => show win0_3.index t (0 : Fin 2) * 3456 + 1 * (j 0).val = (j 0).val; omega
  | ⟨1, _⟩ => show win0_3.index t (1 : Fin 2) * 6 + 1 * (j 1).val = (j 1).val; omega

theorem emb_deq (t : Fin cfg0.N) (j : S3456x6144.Idx) : ((cfg0.win 4).blk t).view.emb j = j := by
  obtain ⟨-, -, -, -, ⟨e0, e1⟩⟩ := index_zero t
  funext a; apply Fin.ext
  match a with
  | ⟨0, _⟩ => show win0_4.index t (0 : Fin 2) * 3456 + 1 * (j 0).val = (j 0).val; omega
  | ⟨1, _⟩ => show win0_4.index t (1 : Fin 2) * 6144 + 1 * (j 1).val = (j 1).val; omega

theorem x_block (c : Dev nD) (t : Fin cfg0.N) : iblk m c 0 t = V m c main_arg0 := by
  funext j; show V m c main_arg0 (((cfg0.win 0).blk t).view.emb j) = V m c main_arg0 j; rw [emb_x]

theorem signs_block (c : Dev nD) (t : Fin cfg0.N) : iblk m c 1 t = V m c main_arg1 := by
  funext j; show V m c main_arg1 (((cfg0.win 1).blk t).view.emb j) = V m c main_arg1 j; rw [emb_signs]

theorem zero2 : (![0, 0] : Fin 2 → Nat) = fun _ => 0 := funext fun a => by fin_cases a <;> rfl
theorem zero1 : (![0] : Fin 1 → Nat) = fun _ => 0 := funext fun a => by fin_cases a <;> rfl

/-- The loads of the body read the whole arrays. -/
theorem scales_loaded (x : Vec Ideal S3456x6144 .bf16) (s : Vec Ideal S6144 .i8) : k0_pay8 x s = k0_pay6 s x := by
  unfold k0_pay8
  rw [View.ld_unit_zero zero1, View.ld_unit_zero zero2]

theorem scaled_loaded (x : Vec Ideal S3456x6144 .bf16) (s : Vec Ideal S6144 .i8) : k0_pay9 x s = k0_pay7 s x := by
  unfold k0_pay9
  rw [View.ld_unit_zero zero1, View.ld_unit_zero zero2]

/-- The codes, as an array. -/
def codesArray (x : Vec Ideal S3456x6144 .bf16) (s : Vec Ideal S6144 .i8) : Vec Ideal S3456x6144 .fp8e4m3 := fun i => codes (rows x) (signs s) (i 0) (i 1)

/-- The scales, as an array. -/
def scalesArray (x : Vec Ideal S3456x6144 .bf16) (s : Vec Ideal S6144 .i8) : Vec Ideal S3456x6 .f32 := fun i => scales (rows x) (signs s) (i 0) (i 1)

/-- The dequantised values, as an array. -/
def deqArray (x : Vec Ideal S3456x6144 .bf16) (s : Vec Ideal S6144 .i8) : Vec Ideal S3456x6144 .bf16 := fun i => deqs (rows x) (signs s) (i 0) (i 1)

theorem codes_out (x : Vec Ideal S3456x6144 .bf16) (s : Vec Ideal S6144 .i8) : out0_2 x s = codesArray x s := by
  unfold out0_2
  rw [View.canon_unit_zero zero2, scaled_loaded]
  funext i
  obtain ⟨a, b, rfl⟩ : ∃ (a : Fin 3456) (b : Fin 6144), i = ix2 a b := ⟨i 0, i 1, eq_ix2 i⟩
  exact codes_value s x a b

theorem scales_out (x : Vec Ideal S3456x6144 .bf16) (s : Vec Ideal S6144 .i8) : out0_3 x s = scalesArray x s := by
  unfold out0_3
  rw [View.canon_unit_zero zero2, scales_loaded]
  funext i
  obtain ⟨a, g, rfl⟩ : ∃ (a : Fin 3456) (g : Fin 6), i = ix2 a g := ⟨i 0, i 1, eq_ix2 i⟩
  exact scale_value s x a g

theorem deq_out (x : Vec Ideal S3456x6144 .bf16) (s : Vec Ideal S6144 .i8) : out0_4 x s = deqArray x s := by
  unfold out0_4
  rw [View.canon_unit_zero zero2, scales_loaded, scaled_loaded]
  funext i
  obtain ⟨a, b, rfl⟩ : ∃ (a : Fin 3456) (b : Fin 6144), i = ix2 a b := ⟨i 0, i 1, eq_ix2 i⟩
  exact deq_value s x a b

theorem codes_final (c : Dev nD) : (dats m 0 c).arrAt 2 cfg0.N = codesArray (m ((c : Thread nD τ).loc main_arg0)) (m ((c : Thread nD τ).loc main_arg1)) := by
  refine ((dats m 0 c).arrAt_eq_of_cover 2 (codesArray (V m c main_arg0) (V m c main_arg1)) (fun t _ => ?_) fun i => ?_).trans (by rw [V_main_arg0, V_main_arg1])
  · show (cfg0.win 2).cut (grid0.coords t) ((dats m 0 c).after 2 t) = _
    rw [after0_2, codes_out, x_block, signs_block]
    generalize codesArray (V m c main_arg0) (V m c main_arg1) = X
    funext j
    show X j = X (((cfg0.win 2).blk t).view.emb j)
    rw [emb_codes]
  · exact ⟨(⟨0, by decide⟩ : Fin cfg0.N), flush0_2 _, by
      have h := ((cfg0.win 2).blk (⟨0, by decide⟩ : Fin cfg0.N)).view.emb_mem_set i; rwa [emb_codes] at h⟩

theorem scales_final (c : Dev nD) : (dats m 0 c).arrAt 3 cfg0.N = scalesArray (m ((c : Thread nD τ).loc main_arg0)) (m ((c : Thread nD τ).loc main_arg1)) := by
  refine ((dats m 0 c).arrAt_eq_of_cover 3 (scalesArray (V m c main_arg0) (V m c main_arg1)) (fun t _ => ?_) fun i => ?_).trans (by rw [V_main_arg0, V_main_arg1])
  · show (cfg0.win 3).cut (grid0.coords t) ((dats m 0 c).after 3 t) = _
    rw [after0_3, scales_out, x_block, signs_block]
    generalize scalesArray (V m c main_arg0) (V m c main_arg1) = X
    funext j
    show X j = X (((cfg0.win 3).blk t).view.emb j)
    rw [emb_scales]
  · exact ⟨(⟨0, by decide⟩ : Fin cfg0.N), flush0_3 _, by
      have h := ((cfg0.win 3).blk (⟨0, by decide⟩ : Fin cfg0.N)).view.emb_mem_set i; rwa [emb_scales] at h⟩

theorem deq_final (c : Dev nD) : (dats m 0 c).arrAt 4 cfg0.N = deqArray (m ((c : Thread nD τ).loc main_arg0)) (m ((c : Thread nD τ).loc main_arg1)) := by
  refine ((dats m 0 c).arrAt_eq_of_cover 4 (deqArray (V m c main_arg0) (V m c main_arg1)) (fun t _ => ?_) fun i => ?_).trans (by rw [V_main_arg0, V_main_arg1])
  · show (cfg0.win 4).cut (grid0.coords t) ((dats m 0 c).after 4 t) = _
    rw [after0_4, deq_out, x_block, signs_block]
    generalize deqArray (V m c main_arg0) (V m c main_arg1) = X
    funext j
    show X j = X (((cfg0.win 4).blk t).view.emb j)
    rw [emb_deq]
  · exact ⟨(⟨0, by decide⟩ : Fin cfg0.N), flush0_4 _, by
      have h := ((cfg0.win 4).blk (⟨0, by decide⟩ : Fin cfg0.N)).view.emb_mem_set i; rwa [emb_deq] at h⟩

/-- The run: the three results and the arguments, which it leaves unchanged. -/
theorem run : θ_run (defs (F := Ideal)) (onTc (τ := τ) (main (F := Ideal))) ⟨m, fun _ => 0, ρ⟩ fun r => ∀ c : Dev nD,
      r.2.mem ((c : Thread nD τ).loc main_v0_0) = codesArray (m ((c : Thread nD τ).loc main_arg0)) (m ((c : Thread nD τ).loc main_arg1))
      ∧ r.2.mem ((c : Thread nD τ).loc main_v0_1) = scalesArray (m ((c : Thread nD τ).loc main_arg0)) (m ((c : Thread nD τ).loc main_arg1))
      ∧ r.2.mem ((c : Thread nD τ).loc main_v0_2) = deqArray (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (codes_final m c), ((h c).1 3).trans (scales_final m c), ((h c).1 4).trans (deq_final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.QuantReferenceIdeal.Spec
-- ==== Proof.Signed.lean ====
module

public import proofs.«01_k».proof.Proof.Scale
public import proofs.«01_k».proof.Pre_range_and_signs
public import Idealize.ShloMosaic.Lib.Pointwise

/-! The precondition: every input is at most the largest finite number in absolute value, and 0 or at least `2 ^ -112`, and every
sign lies between -1 and 1, so that every signed input is a real number, up to `2 ^ 128`, and 0 or at least `2 ^ -112` (`tame`). -/

@[expose] public section

noncomputable section

namespace Cert.RotateQuant

open Idealize.ShloMosaic Cert.Pre_range_and_signs

theorem bcast_inputs : S_.BroadcastsInDim S3456x6144 (![] : Fin 0 → Fin S3456x6144.rank) := by decide

theorem bcast_signs : S_.BroadcastsInDim S6144 (![] : Fin 0 → Fin S6144.rank) := by decide

/-- The side conditions of the precondition's function. -/
theorem facts : Cert.Pre_range_and_signs.Facts where
  bcast_S_S3456x6144 := bcast_inputs
  bcast_S_S6144 := bcast_signs

theorem largest : Ideal.ofBits .bf16 0x7F7F#16 = ((255 * 2 ^ 120 : ℝ) : EReal) := by
  simp [Ideal.ofBits, Ideal.ieee, -EReal.coe_mul]

theorem zero : Ideal.ofBits .bf16 0x0000#16 = 0 := by simp [Ideal.ofBits, Ideal.ieee]

theorem least : Ideal.ofBits .bf16 0x0780#16 = (((2 : ℝ) ^ (-112 : ℤ) : ℝ) : EReal) := by
  simp [Ideal.ofBits, Ideal.ieee, -EReal.coe_mul]; norm_num

/-- A value between two reals is real. -/
theorem real_of_abs (v : EReal) (R : ℝ) (h : max v (-v) ≤ (R : EReal)) : ∃ r : ℝ, v = (r : EReal) ∧ |r| ≤ R := by
  have h1 := (le_max_left v (-v)).trans h
  have h2 := (le_max_right v (-v)).trans h
  induction v with
  | bot => simp at h2
  | top => simp at h1
  | coe r =>
    refine ⟨r, rfl, abs_le.2 ⟨?_, EReal.coe_le_coe_iff.1 h1⟩⟩
    rw [← EReal.coe_neg, EReal.coe_le_coe_iff] at h2
    linarith

section
variable [Cert.Pre_range_and_signs.Facts] (x : FVec Ideal S3456x6144 .bf16) (s : IVec S6144 8)

theorem input_real (h : (fn (F := Ideal) x s).1 = fun _ => 1#1) (a : Fin 3456) (b : Fin 6144) :
    ∃ r : ℝ, x (ix2 a b) = (r : EReal) ∧ |r| ≤ 255 * 2 ^ 120 := by
  have e : (fn (F := Ideal) x s).1 (ix2 a b)
      = BitVec.ofBool (decide (max (x (ix2 a b)) (-x (ix2 a b)) ≤ Ideal.ofBits .bf16 0x7F7F#16)) := rfl
  have e' := congrFun h (ix2 a b)
  rw [e] at e'
  refine real_of_abs _ _ ?_
  rw [← largest]
  by_contra hn
  rw [decide_eq_false hn] at e'
  exact absurd e' (by decide)

theorem input_large (h : (fn (F := Ideal) x s).2.1 = fun _ => 1#1) (a : Fin 3456) (b : Fin 6144) (r : ℝ) (hr : x (ix2 a b) = (r : EReal)) :
    r = 0 ∨ (2 : ℝ) ^ (-112 : ℤ) ≤ |r| := by
  have e : (fn (F := Ideal) x s).2.1 (ix2 a b)
      = BitVec.ofBool (decide (x (ix2 a b) = Ideal.ofBits .bf16 0x0000#16))
        ||| BitVec.ofBool (decide (Ideal.ofBits .bf16 0x0780#16 ≤ max (x (ix2 a b)) (-x (ix2 a b)))) := rfl
  have e' := congrFun h (ix2 a b)
  rw [e, hr, least, zero, ← EReal.coe_neg] at e'
  by_contra hn
  obtain ⟨h0, h1⟩ := not_or.1 hn
  have h2 : ¬(((2 : ℝ) ^ (-112 : ℤ) : ℝ) : EReal) ≤ max (r : EReal) ((-r : ℝ) : EReal) := by
    rw [le_max_iff, EReal.coe_le_coe_iff, EReal.coe_le_coe_iff, ← le_max_iff]
    exact h1
  rw [decide_eq_false (fun h => h0 (EReal.coe_eq_zero.1 h)), decide_eq_false h2] at e'
  exact absurd e' (by decide)

theorem sign_small (h : (fn (F := Ideal) x s).2.2 = fun _ => 1#1) (b : Fin 6144) : |((s (ix1 b)).toInt : ℝ)| ≤ 1 := by
  have e : (fn (F := Ideal) x s).2.2 (ix1 b) = IntOp.cmpi .sge (s (ix1 b)) 255#8 &&& IntOp.cmpi .sle (s (ix1 b)) 1#8 := rfl
  have e' := congrFun h (ix1 b)
  rw [e] at e'
  generalize s (ix1 b) = w at e'
  have hw : |w.toInt| ≤ 1 := by
    revert e'
    revert w
    decide
  exact_mod_cast hw

theorem sign_cases (w : BitVec 8) (h : |(w.toInt : ℝ)| ≤ 1) : (w.toInt : ℝ) = 0 ∨ |(w.toInt : ℝ)| = 1 := by
  have h' : |w.toInt| ≤ 1 := by exact_mod_cast h
  have hw : w.toInt = 0 ∨ |w.toInt| = 1 := by
    rcases Int.abs_le_one_iff.1 h' with e | e | e <;> rw [e] <;> decide
  exact_mod_cast hw

/-- Under the precondition every group is real, not too large, and 0 or not too small. -/
theorem tame (h1 : (fn (F := Ideal) x s).1 = fun _ => 1#1) (h2 : (fn (F := Ideal) x s).2.1 = fun _ => 1#1)
    (h3 : (fn (F := Ideal) x s).2.2 = fun _ => 1#1) (a : Fin 3456) (g : Fin 6) :
    Tame (group (fun a b => x (ix2 a b)) (fun b => s (ix1 b)) a g) := by
  choose r hr hb using input_real x s h1
  refine ⟨fun i => r a ⟨g.val * 1024 + i.val, by have := g.isLt; have := i.isLt; omega⟩
    * ((s (ix1 ⟨g.val * 1024 + i.val, by have := g.isLt; have := i.isLt; omega⟩)).toInt : ℝ), ?_, fun i => ?_, fun i => ?_⟩
  · funext i
    unfold group
    dsimp only
    rw [hr, ← EReal.coe_mul]
  · rw [abs_mul]
    refine (mul_le_mul (hb _ _) (sign_small x s h3 _) (abs_nonneg _) (by positivity)).trans ?_
    norm_num
  · rw [mul_eq_zero, abs_mul]
    rcases sign_cases _ (sign_small x s h3 ⟨g.val * 1024 + i.val, by have := g.isLt; have := i.isLt; omega⟩) with e | e
    · exact Or.inl (Or.inr e)
    · rw [e, mul_one]
      exact (input_large x s h2 _ _ _ (hr _ _)).imp Or.inl id

end

end Cert.RotateQuant
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.QuantKernel.Frame
public import proofs.«01_k».proof.Proof.Gen.QuantKernelIdeal.Value
public import proofs.«01_k».proof.Proof.Gen.QuantReferenceIdeal.Frame
public import proofs.«01_k».proof.Proof.Array
public import proofs.«01_k».proof.Proof.Reference
public import proofs.«01_k».proof.Proof.QuantArray
public import proofs.«01_k».proof.Proof.QuantReference
public import proofs.«01_k».proof.Proof.Signed
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.DecodeMatmul.Spec.reference_value _ _ _ _).trans (Cert.DecodeMatmul.array_value m c).symm

theorem algebraic_QuantKernelIdeal_QuantReferenceIdeal :
    algebraic_QuantKernelIdeal_QuantReferenceIdeal_pre_range_and_signs (hPre_range_and_signs := Cert.RotateQuant.facts) := by
  intro m ρ m' ρ' hpre hagree
  letI := Cert.RotateQuant.facts
  have tame : ∀ c a g, Cert.RotateQuant.Tame (Cert.RotateQuant.group (Cert.RotateQuant.inputs m c) (Cert.RotateQuant.signsOf m c) a g) :=
    fun c a g => Cert.RotateQuant.tame _ _ (hpre c).1 (hpre c).2.1 (hpre c).2.2 a g
  refine ⟨_, _, _, Cert.QuantKernelIdeal.Value.run (F := Ideal) m ρ, ?_⟩
  refine (θ_run Cert.QuantReferenceIdeal.defs _ _).mono (fun _ h c => ⟨?_, ?_, ?_, (h c).2.2.2⟩) (Cert.QuantReferenceIdeal.Spec.run m' ρ')
  · rw [(h c).1]
    simp only [hagree c]
    funext i
    obtain ⟨a, b, rfl⟩ : ∃ (a : Fin 3456) (b : Fin 6144), i = ix2 a b := ⟨i 0, i 1, eq_ix2 i⟩
    exact (Cert.RotateQuant.codes_value m c (tame c) a b).symm
  · rw [(h c).2.1]
    simp only [hagree c]
    funext i
    obtain ⟨a, g, rfl⟩ : ∃ (a : Fin 3456) (g : Fin 6), i = ix2 a g := ⟨i 0, i 1, eq_ix2 i⟩
    exact (Cert.RotateQuant.scales_value m c (tame c) a g).symm
  · rw [(h c).2.2.1]
    simp only [hagree c]
    funext i
    obtain ⟨a, b, rfl⟩ : ∃ (a : Fin 3456) (b : Fin 6144), i = ix2 a b := ⟨i 0, i 1, eq_ix2 i⟩
    exact (Cert.RotateQuant.deqs_value m c (tame c) a b).symm

theorem claim : Cert.Claim := ⟨Cert.Kernel.Gen.facts, Cert.KernelIdeal.Gen.facts, Cert.ReferenceIdeal.Gen.facts,
  Cert.QuantKernel.Gen.facts, Cert.QuantKernelIdeal.Gen.facts, Cert.QuantReferenceIdeal.Gen.facts, Cert.RotateQuant.facts,
  fun m ρ _ => Cert.Kernel.Gen.frame m ρ, fun m ρ _ => Cert.KernelIdeal.Gen.frame m ρ, quiescent_ReferenceIdeal,
  fun m ρ _ => Cert.QuantKernel.Gen.frame m ρ, fun m ρ _ => Cert.QuantKernelIdeal.Gen.frame m ρ, fun m ρ _ => Cert.QuantKernelIdeal.Gen.frame m ρ,
  fun m ρ _ => Cert.QuantReferenceIdeal.Gen.frame m ρ, fun m ρ _ => Cert.QuantReferenceIdeal.Gen.frame m ρ,
  (trivial : preserves_Kernel_KernelIdeal), algebraic_KernelIdeal_ReferenceIdeal,
  (trivial : preserves_QuantKernel_QuantKernelIdeal), algebraic_QuantKernelIdeal_QuantReferenceIdeal⟩

end Cert.Proof

end
